-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x512 : Shape := ⟨2, ![768, 512]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_

variable [Facts]

def fn {F : FTy → Type} [FloatOps F] (main_arg0 : FVec F S2x256x768 .f32) (main_arg1 : FVec F S768x512 .f32) (main_arg2 : FVec F S768x512 .f32) (main_arg3 : FVec F S768x512 .f32) (main_arg4 : FVec F S512x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  main_v13
-- ==== Pre_finite_scores_ReferenceIdeal.lean ====
abbrev S2x256x768 : Shape := ⟨3, ![2, 256, 768]⟩
abbrev S768x4096 : Shape := ⟨2, ![768, 4096]⟩
abbrev S4096x768 : Shape := ⟨2, ![4096, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S2x256x768 .f32) (main_arg1 : FVec F S768x4096 .f32) (main_arg2 : FVec F S768x4096 .f32) (main_arg3 : FVec F S768x4096 .f32) (main_arg4 : FVec F S4096x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S768x4096 .f32 := Host.absf main_arg2
  let main_cst_2 : FVec F S_ .f32 := constant S_ .f32 0x7F800000#32
  let main_v10 : FVec F S768x4096 .f32 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S512x768 : Shape := ⟨2, ![512, 768]⟩
abbrev S512x512 : Shape := ⟨2, ![512, 512]⟩
abbrev S3x512x768 : Shape := ⟨3, ![3, 512, 768]⟩
abbrev S5 : Shape := ⟨1, ![5]⟩
abbrev S36 : Shape := ⟨1, ![36]⟩
abbrev S1 : Shape := ⟨1, ![1]⟩
abbrev S_ : Shape := ⟨0, ![]⟩
abbrev S256x768 : Shape := ⟨2, ![256, 768]⟩
abbrev S256x512 : Shape := ⟨2, ![256, 512]⟩
abbrev S256x64 : Shape := ⟨2, ![256, 64]⟩
abbrev S64x256 : Shape := ⟨2, ![64, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S128x512 : Shape := ⟨2, ![128, 512]⟩
abbrev S512x256 : Shape := ⟨2, ![512, 256]⟩
abbrev S128x256 : Shape := ⟨2, ![128, 256]⟩
abbrev S1x128x256 : Shape := ⟨3, ![1, 128, 256]⟩

abbrev nBuf : Space → Nat
  | .hbm => 7
  | .vmem => 9
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S512x768, .f32⟩
  | .hbm, ⟨6, _⟩ => ⟨S2x256x768, .f32⟩
  | .local _ .vmem, ⟨0, _⟩ => ⟨S512x768, .f32⟩
  | .local _ .vmem, ⟨1, _⟩ => ⟨S2x256x768, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S512x768, .f32⟩
  | .local _ .vmem, ⟨6, _⟩ => ⟨S512x512, .bf16⟩
  | .local _ .vmem, ⟨7, _⟩ => ⟨S512x768, .bf16⟩
  | .local _ .vmem, ⟨8, _⟩ => ⟨S3x512x768, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v14 : BitVec 32 := Scalar.xori v2 c1_i32_1
  let c1_i32_3 : BitVec 32 := 1#32
  let v15 : BitVec 32 := Scalar.muli v14 c1_i32_3
  let v16 : BitVec 32 := Scalar.addi c0_i32_4 v15
  v16.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v17 : BitVec 32 := Scalar.xori v2 c3_i32_5
  let c1_i32_7 : BitVec 32 := 1#32
  let v18 : BitVec 32 := Scalar.muli v17 c1_i32_7
  let v19 : BitVec 32 := Scalar.addi c0_i32_8 v18
  v19.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v20 : BitVec 32 := Scalar.xori v2 c4_i32_9
  let c1_i32_11 : BitVec 32 := 1#32
  let v21 : BitVec 32 := Scalar.muli v20 c1_i32_11
  let v22 : BitVec 32 := Scalar.addi c0_i32_12 v21
  v22.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v213 : BitVec 32 := Scalar.xori v2 c1_i32_70
  let c1_i32_74 : BitVec 32 := 1#32
  let v214 : BitVec 32 := Scalar.muli v213 c1_i32_74
  let v215 : BitVec 32 := Scalar.addi c0_i32_75 v214
  v215.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_85 : BitVec 32 := 3#32
  let v230 : BitVec 32 := Scalar.xori v2 c3_i32_85
  let c1_i32_89 : BitVec 32 := 1#32
  let v231 : BitVec 32 := Scalar.muli v230 c1_i32_89
  let v232 : BitVec 32 := Scalar.addi c0_i32_90 v231
  v232.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_98 : BitVec 32 := 4#32
  let v247 : BitVec 32 := Scalar.xori v2 c4_i32_98
  let c1_i32_102 : BitVec 32 := 1#32
  let v248 : BitVec 32 := Scalar.muli v247 c1_i32_102
  let v249 : BitVec 32 := Scalar.addi c0_i32_103 v248
  v249.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_112 : BitVec 32 := 1#32
  let v264 : BitVec 32 := Scalar.xori v2 c1_i32_112
  let c1_i32_116 : BitVec 32 := 1#32
  let v265 : BitVec 32 := Scalar.muli v264 c1_i32_116
  let v266 : BitVec 32 := Scalar.addi c0_i32_117 v265
  v266.toNat
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v281 : BitVec 32 := Scalar.xori v2 c3_i32_126
  let c1_i32_130 : BitVec 32 := 1#32
  let v282 : BitVec 32 := Scalar.muli v281 c1_i32_130
  let v283 : BitVec 32 := Scalar.addi c0_i32_131 v282
  v283.toNat
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_141 : BitVec 32 := 4#32
  let v298 : BitVec 32 := Scalar.xori v2 c4_i32_141
  let c1_i32_144 : BitVec 32 := 1#32
  let v299 : BitVec 32 := Scalar.muli v298 c1_i32_144
  let v300 : BitVec 32 := Scalar.addi c0_i32_145 v299
  v300.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_199 : BitVec 32 := 1#32
  let v477 : BitVec 32 := Scalar.xori v2 c1_i32_199
  let c1_i32_202 : BitVec 32 := 1#32
  let v478 : BitVec 32 := Scalar.muli v477 c1_i32_202
  let v479 : BitVec 32 := Scalar.addi c0_i32_203 v478
  v479.toNat
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_213 : BitVec 32 := 3#32
  let v494 : BitVec 32 := Scalar.xori v2 c3_i32_213
  let c1_i32_216 : BitVec 32 := 1#32
  let v495 : BitVec 32 := Scalar.muli v494 c1_i32_216
  let v496 : BitVec 32 := Scalar.addi c0_i32_217 v495
  v496.toNat
def k0_dev12 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_227 : BitVec 32 := 4#32
  let v511 : BitVec 32 := Scalar.xori v2 c4_i32_227
  let c1_i32_231 : BitVec 32 := 1#32
  let v512 : BitVec 32 := Scalar.muli v511 c1_i32_231
  let v513 : BitVec 32 := Scalar.addi c0_i32_232 v512
  v513.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_242 : BitVec 32 := 1#32
  let v528 : BitVec 32 := Scalar.xori v2 c1_i32_242
  let c1_i32_245 : BitVec 32 := 1#32
  let v529 : BitVec 32 := Scalar.muli v528 c1_i32_245
  let v530 : BitVec 32 := Scalar.addi c0_i32_246 v529
  v530.toNat
def k0_dev14 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_255 : BitVec 32 := 3#32
  let v545 : BitVec 32 := Scalar.xori v2 c3_i32_255
  let c1_i32_258 : BitVec 32 := 1#32
  let v546 : BitVec 32 := Scalar.muli v545 c1_i32_258
  let v547 : BitVec 32 := Scalar.addi c0_i32_259 v546
  v547.toNat
def k0_dev15 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_269 : BitVec 32 := 4#32
  let v562 : BitVec 32 := Scalar.xori v2 c4_i32_269
  let c1_i32_272 : BitVec 32 := 1#32
  let v563 : BitVec 32 := Scalar.muli v562 c1_i32_272
  let v564 : BitVec 32 := Scalar.addi c0_i32_273 v563
  v564.toNat
def k0_dev16 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_302 : BitVec 32 := 3#32
  let v591 : BitVec 32 := Scalar.xori v2 c3_i32_302
  let c1_i32_305 : BitVec 32 := 1#32
  let v592 : BitVec 32 := Scalar.muli v591 c1_i32_305
  let v593 : BitVec 32 := Scalar.addi c0_i32_306 v592
  v593.toNat
def k0_dev17 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_335 : BitVec 32 := 4#32
  let v620 : BitVec 32 := Scalar.xori v2 c4_i32_335
  let c1_i32_338 : BitVec 32 := 1#32
  let v621 : BitVec 32 := Scalar.muli v620 c1_i32_338
  let v622 : BitVec 32 := Scalar.addi c0_i32_339 v621
  v622.toNat
def k0_dev18 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v649 : BitVec 32 := Scalar.xori v2 c1_i32_368
  let c1_i32_371 : BitVec 32 := 1#32
  let v650 : BitVec 32 := Scalar.muli v649 c1_i32_371
  let v651 : BitVec 32 := Scalar.addi c0_i32_372 v650
  v651.toNat
def k0_dev19 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_401 : BitVec 32 := 3#32
  let v678 : BitVec 32 := Scalar.xori v2 c3_i32_401
  let c1_i32_404 : BitVec 32 := 1#32
  let v679 : BitVec 32 := Scalar.muli v678 c1_i32_404
  let v680 : BitVec 32 := Scalar.addi c0_i32_405 v679
  v680.toNat
def k0_dev20 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_434 : BitVec 32 := 4#32
  let v707 : BitVec 32 := Scalar.xori v2 c4_i32_434
  let c1_i32_437 : BitVec 32 := 1#32
  let v708 : BitVec 32 := Scalar.muli v707 c1_i32_437
  let v709 : BitVec 32 := Scalar.addi c0_i32_438 v708
  v709.toNat
def k0_dev21 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_467 : BitVec 32 := 1#32
  let v736 : BitVec 32 := Scalar.xori v2 c1_i32_467
  let c1_i32_470 : BitVec 32 := 1#32
  let v737 : BitVec 32 := Scalar.muli v736 c1_i32_470
  let v738 : BitVec 32 := Scalar.addi c0_i32_471 v737
  v738.toNat
def k0_dev22 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_500 : BitVec 32 := 3#32
  let v765 : BitVec 32 := Scalar.xori v2 c3_i32_500
  let c1_i32_503 : BitVec 32 := 1#32
  let v766 : BitVec 32 := Scalar.muli v765 c1_i32_503
  let v767 : BitVec 32 := Scalar.addi c0_i32_504 v766
  v767.toNat
def k0_dev23 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_533 : BitVec 32 := 4#32
  let v794 : BitVec 32 := Scalar.xori v2 c4_i32_533
  let c1_i32_536 : BitVec 32 := 1#32
  let v795 : BitVec 32 := Scalar.muli v794 c1_i32_536
  let v796 : BitVec 32 := Scalar.addi c0_i32_537 v795
  v796.toNat
def k0_dev24 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_566 : BitVec 32 := 1#32
  let v823 : BitVec 32 := Scalar.xori v2 c1_i32_566
  let c1_i32_569 : BitVec 32 := 1#32
  let v824 : BitVec 32 := Scalar.muli v823 c1_i32_569
  let v825 : BitVec 32 := Scalar.addi c0_i32_570 v824
  v825.toNat
def k0_dev25 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_599 : BitVec 32 := 3#32
  let v852 : BitVec 32 := Scalar.xori v2 c3_i32_599
  let c1_i32_602 : BitVec 32 := 1#32
  let v853 : BitVec 32 := Scalar.muli v852 c1_i32_602
  let v854 : BitVec 32 := Scalar.addi c0_i32_603 v853
  v854.toNat
def k0_dev26 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_632 : BitVec 32 := 4#32
  let v881 : BitVec 32 := Scalar.xori v2 c4_i32_632
  let c1_i32_635 : BitVec 32 := 1#32
  let v882 : BitVec 32 := Scalar.muli v881 c1_i32_635
  let v883 : BitVec 32 := Scalar.addi c0_i32_636 v882
  v883.toNat
def k0_dev27 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_665 : BitVec 32 := 1#32
  let v910 : BitVec 32 := Scalar.xori v2 c1_i32_665
  let c1_i32_668 : BitVec 32 := 1#32
  let v911 : BitVec 32 := Scalar.muli v910 c1_i32_668
  let v912 : BitVec 32 := Scalar.addi c0_i32_669 v911
  v912.toNat
def k0_dev28 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_697 : BitVec 32 := 4#32
  let v939 : BitVec 32 := Scalar.xori v2 c4_i32_697
  let c1_i32_700 : BitVec 32 := 1#32
  let v940 : BitVec 32 := Scalar.muli v939 c1_i32_700
  let v941 : BitVec 32 := Scalar.addi c0_i32_701 v940
  v941.toNat
def k0_dev29 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_730 : BitVec 32 := 1#32
  let v968 : BitVec 32 := Scalar.xori v2 c1_i32_730
  let c1_i32_733 : BitVec 32 := 1#32
  let v969 : BitVec 32 := Scalar.muli v968 c1_i32_733
  let v970 : BitVec 32 := Scalar.addi c0_i32_734 v969
  v970.toNat
def k0_dev30 (d0 : Dev nD) : Nat :=
  let c0_i32_767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_763 : BitVec 32 := 3#32
  let v997 : BitVec 32 := Scalar.xori v2 c3_i32_763
  let c1_i32_766 : BitVec 32 := 1#32
  let v998 : BitVec 32 := Scalar.muli v997 c1_i32_766
  let v999 : BitVec 32 := Scalar.addi c0_i32_767 v998
  v999.toNat
def k0_dev31 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_796 : BitVec 32 := 4#32
  let v1026 : BitVec 32 := Scalar.xori v2 c4_i32_796
  let c1_i32_799 : BitVec 32 := 1#32
  let v1027 : BitVec 32 := Scalar.muli v1026 c1_i32_799
  let v1028 : BitVec 32 := Scalar.addi c0_i32_800 v1027
  v1028.toNat
def k0_dev32 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_829 : BitVec 32 := 1#32
  let v1055 : BitVec 32 := Scalar.xori v2 c1_i32_829
  let c1_i32_832 : BitVec 32 := 1#32
  let v1056 : BitVec 32 := Scalar.muli v1055 c1_i32_832
  let v1057 : BitVec 32 := Scalar.addi c0_i32_833 v1056
  v1057.toNat
def k0_dev33 (d0 : Dev nD) : Nat :=
  let c0_i32_866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_862 : BitVec 32 := 3#32
  let v1084 : BitVec 32 := Scalar.xori v2 c3_i32_862
  let c1_i32_865 : BitVec 32 := 1#32
  let v1085 : BitVec 32 := Scalar.muli v1084 c1_i32_865
  let v1086 : BitVec 32 := Scalar.addi c0_i32_866 v1085
  v1086.toNat
def k0_dev34 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_895 : BitVec 32 := 4#32
  let v1113 : BitVec 32 := Scalar.xori v2 c4_i32_895
  let c1_i32_898 : BitVec 32 := 1#32
  let v1114 : BitVec 32 := Scalar.muli v1113 c1_i32_898
  let v1115 : BitVec 32 := Scalar.addi c0_i32_899 v1114
  v1115.toNat
def k0_dev35 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_928 : BitVec 32 := 1#32
  let v1142 : BitVec 32 := Scalar.xori v2 c1_i32_928
  let c1_i32_931 : BitVec 32 := 1#32
  let v1143 : BitVec 32 := Scalar.muli v1142 c1_i32_931
  let v1144 : BitVec 32 := Scalar.addi c0_i32_932 v1143
  v1144.toNat
def k0_dev36 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_961 : BitVec 32 := 3#32
  let v1171 : BitVec 32 := Scalar.xori v2 c3_i32_961
  let c1_i32_964 : BitVec 32 := 1#32
  let v1172 : BitVec 32 := Scalar.muli v1171 c1_i32_964
  let v1173 : BitVec 32 := Scalar.addi c0_i32_965 v1172
  v1173.toNat
def k0_dev37 (d0 : Dev nD) : Nat :=
  let c0_i32_998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_994 : BitVec 32 := 4#32
  let v1200 : BitVec 32 := Scalar.xori v2 c4_i32_994
  let c1_i32_997 : BitVec 32 := 1#32
  let v1201 : BitVec 32 := Scalar.muli v1200 c1_i32_997
  let v1202 : BitVec 32 := Scalar.addi c0_i32_998 v1201
  v1202.toNat
def k0_dev38 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1027 : BitVec 32 := 1#32
  let v1229 : BitVec 32 := Scalar.xori v2 c1_i32_1027
  let c1_i32_1030 : BitVec 32 := 1#32
  let v1230 : BitVec 32 := Scalar.muli v1229 c1_i32_1030
  let v1231 : BitVec 32 := Scalar.addi c0_i32_1031 v1230
  v1231.toNat
def k0_dev39 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1060 : BitVec 32 := 3#32
  let v1258 : BitVec 32 := Scalar.xori v2 c3_i32_1060
  let c1_i32_1063 : BitVec 32 := 1#32
  let v1259 : BitVec 32 := Scalar.muli v1258 c1_i32_1063
  let v1260 : BitVec 32 := Scalar.addi c0_i32_1064 v1259
  v1260.toNat
abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x768 : Shape := ⟨3, ![2, 256, 768]⟩
abbrev S768x4096 : Shape := ⟨2, ![768, 4096]⟩
abbrev S4096x768 : Shape := ⟨2, ![4096, 768]⟩
abbrev S2x256x4096 : Shape := ⟨3, ![2, 256, 4096]⟩
abbrev S2x256x64x64 : Shape := ⟨4, ![2, 256, 64, 64]⟩
abbrev S_ : Shape := ⟨0, ![]⟩
abbrev S2x64x256x1 : Shape := ⟨4, ![2, 64, 256, 1]⟩
abbrev S2x64x256x256 : Shape := ⟨4, ![2, 64, 256, 256]⟩
abbrev S2x64x256 : Shape := ⟨3, ![2, 64, 256]⟩
abbrev S2x256x64x1 : Shape := ⟨4, ![2, 256, 64, 1]⟩
abbrev S2x64x64x256 : Shape := ⟨4, ![2, 64, 64, 256]⟩

abbrev nBuf : Space → Nat
  | .hbm => 46
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x4096, .f32⟩
  | .hbm, ⟨2, _⟩ => ⟨S768x4096, .f32⟩
  | .hbm, ⟨3, _⟩ => ⟨S768x4096, .f32⟩
  | .hbm, ⟨4, _⟩ => ⟨S4096x768, .f32⟩
  | .hbm, ⟨5, _⟩ => ⟨S2x256x4096, .f32⟩
  | .hbm, ⟨6, _⟩ => ⟨S2x256x64x64, .f32⟩
  | .hbm, ⟨7, _⟩ => ⟨S2x256x4096, .f32⟩
  | .hbm, ⟨8, _⟩ => ⟨S2x256x64x64, .f32⟩
  | .hbm, ⟨9, _⟩ => ⟨S2x256x4096, .f32⟩
  | .hbm, ⟨10, _⟩ => ⟨S2x256x64x64, .f32⟩
  | .hbm, ⟨11, _⟩ => ⟨S_, .f32⟩
  | .hbm, ⟨12, _⟩ => ⟨S2x256x64x64, .f32⟩
  | .hbm, ⟨13, _⟩ => ⟨S_, .f32⟩
  | .hbm, ⟨14, _⟩ => ⟨S2x64x256x1, .f32⟩
  | .hbm, ⟨15, _⟩ => ⟨S_, .f32⟩
  | .hbm, ⟨16, _⟩ => ⟨S2x64x256x1, .f32⟩
  | .hbm, ⟨17, _⟩ => ⟨S2x64x256x256, .f32⟩
  | .hbm, ⟨18, _⟩ => ⟨S_, .f32⟩
  | .hbm, ⟨19, _⟩ => ⟨S2x64x256x256, .f32⟩
  | .hbm, ⟨20, _⟩ => ⟨S2x64x256x256, .f32⟩
  | .hbm, ⟨21, _⟩ => ⟨S_, .f32⟩
  | .hbm, ⟨22, _⟩ => ⟨S2x64x256, .f32⟩
  | .hbm, ⟨23, _⟩ => ⟨S2x64x256x1, .f32⟩
  | .hbm, ⟨24, _⟩ => ⟨S2x64x256x1, .f32⟩
  | .hbm, ⟨25, _⟩ => ⟨S2x64x256x1, .f32⟩
  | .hbm, ⟨26, _⟩ => ⟨S2x64x256x1, .f32⟩
  | .hbm, ⟨27, _⟩ => ⟨S2x64x256x256, .f32⟩
  | .hbm, ⟨28, _⟩ => ⟨S2x64x256x256, .f32⟩
  | .hbm, ⟨29, _⟩ => ⟨S2x64x256x256, .f32⟩
  | .hbm, ⟨30, _⟩ => ⟨S2x64x256x1, .f32⟩
  | .hbm, ⟨31, _⟩ => ⟨S_, .f32⟩
  | .hbm, ⟨32, _⟩ => ⟨S2x64x256, .f32⟩
  | .hbm, ⟨33, _⟩ => ⟨S2x64x256x1, .f32⟩
  | .hbm, ⟨34, _⟩ => ⟨S2x64x256x1, .f32⟩
  | .hbm, ⟨35, _⟩ => ⟨S2x256x64x1, .f32⟩
  | .hbm, ⟨36, _⟩ => ⟨S2x256x64x64, .f32⟩
  | .hbm, ⟨37, _⟩ => ⟨S2x256x64x64, .f32⟩
  | .hbm, ⟨38, _⟩ => ⟨S2x64x64x256, .f32⟩
  | .hbm, ⟨39, _⟩ => ⟨S2x256x64x64, .f32⟩
  | .hbm, ⟨40, _⟩ => ⟨S2x256x64x64, .f32⟩
  | .hbm, ⟨41, _⟩ => ⟨S2x256x64x1, .f32⟩
  | .hbm, ⟨42, _⟩ => ⟨S2x256x64x64, .f32⟩
  | .hbm, ⟨43, _⟩ => ⟨S2x256x64x64, .f32⟩
  | .hbm, ⟨44, _⟩ => ⟨S2x256x4096, .f32⟩
  | .hbm, ⟨45, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Mesh.Contents.lean ====
/- What the kernel computes, as functions of the arrays a device is given: the exponentials of the scaled
   scores, one head's rows of attention, the device's contribution to one tile of the result, and what a tile
   holds after each of the three exchanges with the other devices. A tile is one of the twelve 128 × 256
   pieces of the 512 × 768 result, `t = 3·r + c` for the piece in row block `r` and column block `c`. -/
module

public import proofs.«01_k».proof.Proof.Gen.KernelIdeal

@[expose] public section

noncomputable section

namespace Cert.KernelIdeal.Mesh

open Idealize.ShloMosaic Idealize.SL.Sem
open Cert.KernelIdeal Cert.KernelIdeal.Gen

variable {F : FTy → Type} [FloatOps F]

/-! ## Offsets and shape facts, for every tile, head and batch -/

theorem inb_tile (t : Fin 12) : ∀ a, (![128 * (t.val / 3), 256 * (t.val % 3)] : Fin 2 → Nat) a + S128x256.size a ≤ S512x768.size a := by
  revert t; decide

theorem inb_slot (w : Fin 3) (t : Fin 12) :
    ∀ a, (![w.val, 128 * (t.val / 3), 256 * (t.val % 3)] : Fin 3 → Nat) a + S1x128x256.size a ≤ S3x512x768.size a := by
  revert w t; decide

theorem inb_head (b : Fin 2) (h : Fin 8) : ∀ a, (![256 * b.val, 64 * h.val] : Fin 2 → Nat) a + S256x64.size a ≤ S512x512.size a := by
  revert b h; decide

theorem inb_rows (r : Fin 4) : ∀ a, (![128 * r.val, 0] : Fin 2 → Nat) a + S128x512.size a ≤ S512x512.size a := by
  revert r; decide

theorem slices_cols (t : Fin 12) : S512x768.Slices ![0, 256 * (t.val % 3)] S512x256 := by revert t; decide

theorem slices_batch (b : Fin 2) : S512x768.Slices ![256 * b.val, 0] S256x768 := by revert b; decide

theorem slices_head (h : Fin 8) : S256x512.Slices ![0, 64 * h.val] S256x64 := by revert h; decide

theorem slices_score (h : Fin 8) : S256x2048.Slices ![0, 256 * h.val] S256x256 := by revert h; decide

/-- The rows of attention the tile's row block reads. -/
abbrev rowOf (t : Fin 12) : Fin 4 := ⟨t.val / 3, by omega⟩

/-! ## Attention -/

/-- The rows of one batch, rounded. -/
def batchRows (x : Vec F S2x256x768 .f32) (b : Fin 2) : FVec F S256x768 .bf16 :=
  extractStridedSlice S256x768 ![256 * b.val, 0]
    (truncf .bf16 (shapeCast S512x768 x shapeCasts_S2x256x768_S512x768) bitsLt_bf16_f32) (slices_batch b)

/-- A batch's rows multiplied by a device's block of a projection. -/
def project (x : Vec F S2x256x768 .f32) (w : Vec F S768x512 .f32) (b : Fin 2) : FVec F S256x512 .f32 :=
  matmul dot_S256x768_S768x512_S256x512_1_0_0_1_n_n none (batchRows x b) (truncf .bf16 w bitsLt_bf16_f32)
    (constant S256x512 .f32 0x00000000#32)

/-- One head's columns, rounded. -/
def headCols (q : FVec F S256x512 .f32) (h : Fin 8) : FVec F S256x64 .bf16 :=
  truncf .bf16 (extractStridedSlice S256x64 ![0, 64 * h.val] q (slices_head h)) bitsLt_bf16_f32

/-- One head's products of queries with keys. -/
def scores (q k : FVec F S256x512 .f32) (h : Fin 8) : FVec F S256x256 .f32 :=
  matmul dot_S256x64_S64x256_S256x256_1_0_0_1_n_n none (headCols q h)
    (transpose S64x256 [1, 0] (headCols k h) transposes_S256x64_p1_0_S64x256) (constant S256x256 .f32 0x00000000#32)

/-- The exponentials of the scaled scores, the eight heads side by side. -/
def expScores (q k : FVec F S256x512 .f32) : FVec F S256x2048 .f32 :=
  exp (mulf (concatenate S256x2048 1 [⟨S256x256, scores q k 0⟩, ⟨S256x256, scores q k 1⟩, ⟨S256x256, scores q k 2⟩,
      ⟨S256x256, scores q k 3⟩, ⟨S256x256, scores q k 4⟩, ⟨S256x256, scores q k 5⟩, ⟨S256x256, scores q k 6⟩,
      ⟨S256x256, scores q k 7⟩]
      concatenates_S256x256_S256x256_S256x256_S256x256_S256x256_S256x256_S256x256_S256x256_S256x2048_d1)
    (broadcast S256x2048 (Scalar.ofBits .f32 0x3E000000#32)))

/-- One head's weights: its 256 columns of the exponentials. -/
def weights (p : FVec F S256x2048 .f32) (h : Fin 8) : FVec F S256x256 .f32 :=
  extractStridedSlice S256x256 ![0, 256 * h.val] p (slices_score h)

/-- One head's attention: its weights times its values, divided by the sum of its weights, rounded. -/
def headRows (p : FVec F S256x2048 .f32) (v : FVec F S256x512 .f32) (h : Fin 8) : FVec F S256x64 .bf16 :=
  shapeCast S256x64
    (truncf .bf16
      (divf
        (matmul dot_S256x256_S256x64_S256x64_1_0_0_1_n_n none (truncf .bf16 (weights p h) bitsLt_bf16_f32)
          (headCols v h) (constant S256x64 .f32 0x00000000#32))
        (broadcastTo S256x64
          (shapeCast S256x1
            (multiReduction .add [1] S256 (weights p h) 0x00000000#32 reduces_S256x256_S256 (.inl rfl) rfl)
            shapeCasts_S256_S256x1)
          broadcasts_S256x1_S256x64))
      bitsLt_bf16_f32)
    shapeCasts_S256x64_S256x64

/-- What the device stores of attention for batch `b` and head `h`. -/
def headOf (x : Vec F S2x256x768 .f32) (wq wk wv : Vec F S768x512 .f32) (b : Fin 2) (h : Fin 8) : FVec F S256x64 .bf16 :=
  headRows (expScores (project x wq b) (project x wk b)) (project x wv b) h

/-- The attention array after every head of both batches is stored: element `(i, j)` belongs to batch `i / 256`
    and head `j / 64`. -/
def attnOf (x : Vec F S2x256x768 .f32) (wq wk wv : Vec F S768x512 .f32) : Vec F S512x512 .bf16 := fun i =>
  headOf x wq wk wv ⟨(i 0).val / 256, Nat.div_lt_of_lt_mul (i 0).isLt⟩ ⟨(i 1).val / 64, Nat.div_lt_of_lt_mul (i 1).isLt⟩
    (Fin.cons ⟨(i 0).val % 256, Nat.mod_lt _ (by decide)⟩
      (Fin.cons ⟨(i 1).val % 64, Nat.mod_lt _ (by decide)⟩ fun a => a.elim0))

/-! ## A tile of the result -/

/-- A row block of attention times a column block of the output weights, rounded. -/
def tileOf (wo : Vec F S512x768 .f32) (rows : Vec F S128x512 .bf16) (t : Fin 12) : FVec F S128x256 .bf16 :=
  shapeCast S128x256
    (truncf .bf16
      (matmul dot_S128x512_S512x256_S128x256_1_0_0_1_n_n none rows
        (extractStridedSlice S512x256 ![0, 256 * (t.val % 3)] (truncf .bf16 wo bitsLt_bf16_f32) (slices_cols t))
        (constant S128x256 .f32 0x00000000#32))
      bitsLt_bf16_f32)
    shapeCasts_S128x256_S128x256

/-- A row block of an attention array. -/
def rowsOf (a : Vec F S512x512 .bf16) (r : Fin 4) : Vec F S128x512 .bf16 :=
  fun i => a ((Rect.unit (s := S512x512) ![128 * r.val, 0] S128x512.size (inb_rows r)).emb i)

/-- A tile added to the one that arrived. -/
def addTile (mine : Vec F S128x256 .bf16) (theirs : Vec F S1x128x256 .bf16) : FVec F S128x256 .bf16 :=
  shapeCast S128x256 (addf mine (shapeCast S128x256 theirs shapeCasts_S1x128x256_S128x256)) shapeCasts_S128x256_S128x256

/-- A finished tile in the result's format. -/
def outTile (v : Vec F S128x256 .bf16) : FVec F S128x256 .f32 := extf .f32 v bitsLt_bf16_f32

end Cert.KernelIdeal.Mesh

end
-- ==== Proof.Mesh.Body.lean ====
/- The kernel's body as a short program: the same operations in the same order, with one definition per kind of
   step — store a head of attention, compute a tile, start an exchange, finish one, write a result tile — and the
   twelve tiles and three rounds as lists of those steps. -/
module

public import proofs.«01_k».proof.Proof.Mesh.Contents
public import Idealize.ShloMosaic.Lib.Pipeline.Regions

@[expose] public section

noncomputable section

namespace Cert.KernelIdeal.Mesh

open Idealize.ShloMosaic Idealize.SL.Sem
open Cert.KernelIdeal Cert.KernelIdeal.Gen

variable {F : FTy → Type} [FloatOps F]

/-! ## The other device of an exchange -/

/-- The three device masks of the exchanges, by direction. -/
def maskWord : Fin 3 → BitVec 32
  | 0 => 1#32
  | 1 => 3#32
  | 2 => 4#32

/-- The number of the device a device meets in direction `k`. -/
def peerNat (k : Fin 3) (d : Dev nD) : Nat :=
  (Scalar.addi 0#32
    (Scalar.muli (Scalar.xori (Scalar.remsi (Scalar.divsi (Dev.word d) 1#32) 8#32) (maskWord k)) 1#32)).toNat

theorem peerNat_lt : ∀ (k : Fin 3) (d : Dev nD), peerNat k d < nD := by decide +kernel

/-- The device a device meets in direction `k`. -/
abbrev peer (k : Fin 3) (d : Dev nD) : Dev nD := ⟨peerNat k d, peerNat_lt k d⟩

/-- The direction tile `t` takes in round `w`. -/
abbrev dir (w : Fin 3) (t : Fin 12) : Fin 3 := ⟨(t.val % 3 + w.val) % 3, Nat.mod_lt _ (by decide)⟩

/-! ## The kernel's buffers and semaphores -/

abbrev xM : Memref sig .tc .vmem S2x256x768 .f32 := Memref.whole cc0_scratch0
abbrev wqM : Memref sig .tc .vmem S768x512 .f32 := Memref.whole cc0_scratch1
abbrev wkM : Memref sig .tc .vmem S768x512 .f32 := Memref.whole cc0_scratch2
abbrev wvM : Memref sig .tc .vmem S768x512 .f32 := Memref.whole cc0_scratch3
abbrev woM : Memref sig .tc .vmem S512x768 .f32 := Memref.whole cc0_scratch4
abbrev attnM : Memref sig .tc .vmem S512x512 .bf16 := Memref.whole cc0_scratch5
abbrev workM : Memref sig .tc .vmem S512x768 .bf16 := Memref.whole cc0_scratch6
abbrev recvM : Memref sig .tc .vmem S3x512x768 .bf16 := Memref.whole cc0_scratch7
abbrev outM : Memref sig .tc .vmem S512x768 .f32 := Memref.whole cc0_stg0_0

/-- A tile's rectangle in the 512 × 768 arrays. -/
abbrev tileR (t : Fin 12) : Rect S512x768 :=
  Rect.unit (s := S512x768) ![128 * (t.val / 3), 256 * (t.val % 3)] S128x256.size (inb_tile t)
/-- A tile's rectangle in the slots the exchanges arrive in. -/
abbrev slotR (w : Fin 3) (t : Fin 12) : Rect S3x512x768 :=
  Rect.unit (s := S3x512x768) ![w.val, 128 * (t.val / 3), 256 * (t.val % 3)] S1x128x256.size (inb_slot w t)
/-- A head's rectangle in the attention array. -/
abbrev headR (b : Fin 2) (h : Fin 8) : Rect S512x512 :=
  Rect.unit (s := S512x512) ![256 * b.val, 64 * h.val] S256x64.size (inb_head b h)
/-- A row block of the attention array. -/
abbrev rowsR (r : Fin 4) : Rect S512x512 :=
  Rect.unit (s := S512x512) ![128 * r.val, 0] S128x512.size (inb_rows r)

theorem words_tile : ∀ t : Fin 12, (tileR t).WholeWords (EltTy.packing .bf16) := by decide
theorem packed_tile : ∀ t : Fin 12, (tileR t).PackedRows (EltTy.packing .bf16) := by decide
theorem words_slot : ∀ (w : Fin 3) (t : Fin 12), (slotR w t).WholeWords (EltTy.packing .bf16) := by decide
theorem packed_head : ∀ (b : Fin 2) (h : Fin 8), (headR b h).PackedRows (EltTy.packing .bf16) := by decide

/-- A tile of the working array. -/
abbrev workT (t : Fin 12) : Memref sig .tc .vmem S128x256 .bf16 := workM.slice (tileR t) (fun _ => rfl)
/-- The slot tile `t` arrives in, in round `w`. -/
abbrev slotT (w : Fin 3) (t : Fin 12) : Memref sig .tc .vmem S128x256 .bf16 :=
  (recvM.slice (slotR w t) (fun _ => rfl)).squeeze S128x256 squeezes_S1x128x256_S128x256

theorem workT_words (t : Fin 12) : (workT t).view.WordExact := (Memref.isWhole_whole _).wordExact_slice rfl _ (words_tile t)
theorem slotT_words (w : Fin 3) (t : Fin 12) : (slotT w t).view.WordExact :=
  ((Memref.isWhole_whole _).wordExact_slice rfl _ (words_slot w t)).reshape _ _

theorem inb_copy (k : Fin 5) : ∀ a, (![k.val] : Fin 1 → Nat) a + S1.size a ≤ S5.size a := by revert k; decide
theorem inb_sem (w : Fin 3) (t : Fin 12) : ∀ a, (![12 * w.val + t.val] : Fin 1 → Nat) a + S1.size a ≤ S36.size a := by
  revert w t; decide

/-- The semaphore of the copy that brings argument `k` in. -/
abbrev copyS (k : Fin 5) := ((cc0_scratch8.slice (Rect.unit (s := S5) ![k.val] S1.size (inb_copy k))).squeeze S_ squeezes_S1_S_).sem
/-- The semaphore that counts tile `t`'s departure in round `w`. -/
abbrev sendS (w : Fin 3) (t : Fin 12) :=
  ((cc0_scratch9.slice (Rect.unit (s := S36) ![12 * w.val + t.val] S1.size (inb_sem w t))).squeeze S_ squeezes_S1_S_).sem
/-- The semaphore that counts tile `t`'s arrival in round `w`. -/
abbrev recvS (w : Fin 3) (t : Fin 12) :=
  ((cc0_scratch10.slice (Rect.unit (s := S36) ![12 * w.val + t.val] S1.size (inb_sem w t))).squeeze S_ squeezes_S1_S_).sem
/-- The semaphore the devices meet at. -/
abbrev barS : Sem sig := (SemArray.scalar (sig.barrier 0 rfl) : Sems sig S_).sem

/-! ## The steps -/

variable (F) in
/-- Programs of one device's core. -/
abbrev Code := Prog (TpuEff nD τ sig (Elt F) Λ₀ .tc) PUnit

/-- Store one head's attention. -/
def storeHead (x : Vec F S2x256x768 .f32) (wq wk wv : Vec F S768x512 .f32) (b : Fin 2) (h : Fin 8) : Code F := do
  let _ ← Prog.lift (.load attnM (headR b h).toLoadRect (View.loadsAt_vmem h_S256x64))
  Prog.lift (.store attnM (headR b h) (headOf x wq wk wv b h) Finset.univ
    (View.stores_vmem h_S256x64 ((Memref.isWhole_whole _).storeExact_slice rfl _ (packed_head b h)) (fun _ => rfl)) (.inl rfl))

/-- Replace a tile of the working array. -/
def storeTile (t : Fin 12) (v : FVec F S128x256 .bf16) : Code F := do
  let _ ← Prog.lift (.load workM (tileR t).toLoadRect (View.loadsAt_vmem h_S128x256))
  Prog.lift (.store workM (tileR t) v Finset.univ
    (View.stores_vmem h_S128x256 ((Memref.isWhole_whole _).storeExact_slice rfl _ (packed_tile t)) (fun _ => rfl)) (.inl rfl))

/-- Compute the device's contribution to a tile. -/
def makeTile (wo : Vec F S512x768 .f32) (t : Fin 12) : Code F := do
  let rows ← Prog.lift (.load attnM (rowsR (rowOf t)).toLoadRect (View.loadsAt_vmem h_S128x512))
  storeTile t (tileOf wo rows t)

/-- Send a tile to the other device of its round. -/
def start (d : Dev nD) (w : Fin 3) (t : Fin 12) : Code F :=
  Prog.lift (.enqueueDma (workT t) (.remote (Dev.tc (peer (dir w t) d)) (slotT w t) (.dma (sendS w t))) (.dma (recvS w t))
    (workT_words t) (slotT_words w t) ⟨⟨rfl, Or.inl rfl⟩, trivial⟩)

/-- Wait for a tile's arrival and departure, and add the one that arrived. -/
def finish (w : Fin 3) (t : Fin 12) : Code F := do
  Prog.lift (.waitDma2 (recvS w t) (workT t) (slotT w t) (workT_words t) (slotT_words w t))
  Prog.lift (.waitDma2 (sendS w t) (slotT w t) (workT t) (slotT_words w t) (workT_words t))
  let mine ← Prog.lift (.load workM (tileR t).toLoadRect (View.loadsAt_vmem h_S128x256))
  let theirs ← Prog.lift (.load recvM (slotR w t).toLoadRect (View.loadsAt_vmem h_S1x128x256))
  storeTile t (addTile mine theirs)

/-- Write a finished tile into the result. -/
def writeOut (t : Fin 12) : Code F := do
  let v ← Prog.lift (.load workM (tileR t).toLoadRect (View.loadsAt_vmem h_S128x256))
  let _ ← Prog.lift (.load outM (tileR t).toLoadRect (View.loadsAt_vmem h_S128x256))
  Prog.lift (.store outM (tileR t) (outTile v) Finset.univ (View.stores_vmem_bits_univ h_S128x256 rfl) (.inl rfl))

/-! ## The body -/

/-- The heads in the order they are stored. -/
abbrev heads : List (Fin 8) := [0, 1, 2, 3, 4, 5, 6, 7]
/-- The tiles in the order they are taken. -/
abbrev tiles : List (Fin 12) := [0, 1, 2, 3, 4, 5, 6, 7, 8, 9, 10, 11]

/-- Everything after the arguments' projections are loaded: attention of the first batch, its tiles, attention of the
    second batch, its tiles, and the three rounds. -/
def rest (d : Dev nD) (x : Vec F S2x256x768 .f32) (wq wk wv : Vec F S768x512 .f32) : Code F := do
  Pipeline.chain (heads.map (storeHead x wq wk wv 0))
  Prog.lift (.waitDma2 (copyS 4) (Memref.whole main_arg4) woM (Memref.isWhole_whole _).wordExact (Memref.isWhole_whole _).wordExact)
  let wo ← Prog.lift (.load woM (Rect.unit (s := S512x768) ![0, 0] S512x768.size inb_S512x768_S512x768_0_0).toLoadRect (View.loadsAt_vmem h_S512x768))
  makeTile wo 0
  semWaitWord barS 3#32
  start d 0 0
  Pipeline.chain (([1, 2, 3, 4, 5] : List (Fin 12)).map fun t => makeTile wo t >>= fun _ => start d 0 t)
  Pipeline.chain (heads.map (storeHead x wq wk wv 1))
  Pipeline.chain (([6, 7, 8, 9, 10, 11] : List (Fin 12)).map fun t => makeTile wo t >>= fun _ => start d 0 t)
  Pipeline.chain (tiles.map fun t => finish 0 t >>= fun _ => start d 1 t)
  Pipeline.chain (tiles.map fun t => finish 1 t >>= fun _ => start d 2 t)
  Pipeline.chain (tiles.map fun t => finish 2 t >>= fun _ => writeOut t)

/-- The kernel's body. -/
def body : Code F := do
  let d ← Prog.lift .deviceId
  Prog.lift (.enqueueDma (Memref.whole main_arg0) (.here xM) (.dma (copyS 0)) (Memref.isWhole_whole _).wordExact (Memref.isWhole_whole _).wordExact ⟨Or.inl rfl, trivial⟩)
  Prog.lift (.enqueueDma (Memref.whole main_arg1) (.here wqM) (.dma (copyS 1)) (Memref.isWhole_whole _).wordExact (Memref.isWhole_whole _).wordExact ⟨Or.inl rfl, trivial⟩)
  Prog.lift (.enqueueDma (Memref.whole main_arg2) (.here wkM) (.dma (copyS 2)) (Memref.isWhole_whole _).wordExact (Memref.isWhole_whole _).wordExact ⟨Or.inl rfl, trivial⟩)
  Prog.lift (.enqueueDma (Memref.whole main_arg3) (.here wvM) (.dma (copyS 3)) (Memref.isWhole_whole _).wordExact (Memref.isWhole_whole _).wordExact ⟨Or.inl rfl, trivial⟩)
  Prog.lift (.enqueueDma (Memref.whole main_arg4) (.here woM) (.dma (copyS 4)) (Memref.isWhole_whole _).wordExact (Memref.isWhole_whole _).wordExact ⟨Or.inl rfl, trivial⟩)
  semSignalWord (peer 0 d) barS 1#32
  semSignalWord (peer 1 d) barS 1#32
  semSignalWord (peer 2 d) barS 1#32
  Prog.lift (.waitDma2 (copyS 0) (Memref.whole main_arg0) xM (Memref.isWhole_whole _).wordExact (Memref.isWhole_whole _).wordExact)
  Prog.lift (.waitDma2 (copyS 1) (Memref.whole main_arg1) wqM (Memref.isWhole_whole _).wordExact (Memref.isWhole_whole _).wordExact)
  let x ← Prog.lift (.load xM (Rect.unit (s := S2x256x768) ![0, 0, 0] S2x256x768.size inb_S2x256x768_S2x256x768_0_0_0).toLoadRect (View.loadsAt_vmem h_S2x256x768))
  let wq ← Prog.lift (.load wqM (Rect.unit (s := S768x512) ![0, 0] S768x512.size inb_S768x512_S768x512_0_0).toLoadRect (View.loadsAt_vmem h_S768x512))
  Prog.lift (.waitDma2 (copyS 2) (Memref.whole main_arg2) wkM (Memref.isWhole_whole _).wordExact (Memref.isWhole_whole _).wordExact)
  let wk ← Prog.lift (.load wkM (Rect.unit (s := S768x512) ![0, 0] S768x512.size inb_S768x512_S768x512_0_0).toLoadRect (View.loadsAt_vmem h_S768x512))
  Prog.lift (.waitDma2 (copyS 3) (Memref.whole main_arg3) wvM (Memref.isWhole_whole _).wordExact (Memref.isWhole_whole _).wordExact)
  let wv ← Prog.lift (.load wvM (Rect.unit (s := S768x512) ![0, 0] S768x512.size inb_S768x512_S768x512_0_0).toLoadRect (View.loadsAt_vmem h_S768x512))
  rest d x wq wk wv

set_option maxRecDepth 100000 in
/-- The printed kernel on its buffers is `body`. -/
theorem cc0_body_eq :
    (cc0_body (F := F) (Memref.whole main_arg0) (Memref.isWhole_whole _) (Memref.whole main_arg1) (Memref.isWhole_whole _)
      (Memref.whole main_arg2) (Memref.isWhole_whole _) (Memref.whole main_arg3) (Memref.isWhole_whole _)
      (Memref.whole main_arg4) (Memref.isWhole_whole _) outM (Memref.isWhole_whole _) xM (Memref.isWhole_whole _)
      wqM (Memref.isWhole_whole _) wkM (Memref.isWhole_whole _) wvM (Memref.isWhole_whole _) woM (Memref.isWhole_whole _)
      attnM (Memref.isWhole_whole _) workM (Memref.isWhole_whole _) recvM (Memref.isWhole_whole _)
      cc0_scratch8 cc0_scratch9 cc0_scratch10 : Code F) = body := by
  chain_rfl

end Cert.KernelIdeal.Mesh

end
-- ==== Proof.Mesh.Protocol.lean ====
/- The devices' agreement: which semaphore counts what, what each raise of it hands over, and what every device owes
   the others. A device's own semaphores are the five of its argument copies and, for each of the three rounds and
   twelve tiles, one that counts the tile's departure and one that counts its arrival; every device also has the
   semaphore the devices meet at. -/
module

public import proofs.«01_k».proof.Proof.Mesh.Body
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra of the rounds: three duties at most in a round. -/
abbrev UB := URounds (GSem nD τ sig) (Fin 3)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices of an exchange -/

/-- Meeting in a direction is mutual. -/
theorem peer_peer : ∀ (k : Fin 3) (c : Dev nD), peer k (peer k c) = c := by decide +kernel

/-- The devices' pairing in a direction. -/
def swap (k : Fin 3) : Dev nD ≃ Dev nD := ⟨peer k, peer k, peer_peer k, peer_peer k⟩

/-- The direction tile `t` takes in round `w`, the round a number. -/
abbrev dirN (w : ℕ) (t : Fin 12) : Fin 3 := ⟨(t.val % 3 + w) % 3, Nat.mod_lt _ (by decide)⟩

/-- The round in which tile `t` takes direction `k`. -/
abbrev roundOf (k : Fin 3) (t : Fin 12) : Fin 3 := ⟨(k.val + 2 * (t.val % 3)) % 3, Nat.mod_lt _ (by decide)⟩

/-- For each tile, the rounds and the directions correspond. -/
def roundEquiv (t : Fin 12) : Fin 3 ≃ Fin 3 :=
  ⟨fun k => roundOf k t, fun w => dir w t, by revert t; decide, by revert t; decide⟩

theorem dir_roundOf : ∀ (k : Fin 3) (t : Fin 12), dir (roundOf k t) t = k := by decide

/-! ## Contents -/

abbrev argX (c : Dev nD) : Vec F S2x256x768 .f32 := m ((c : Thread nD τ).loc main_arg0)
abbrev argQ (c : Dev nD) : Vec F S768x512 .f32 := m ((c : Thread nD τ).loc main_arg1)
abbrev argK (c : Dev nD) : Vec F S768x512 .f32 := m ((c : Thread nD τ).loc main_arg2)
abbrev argV (c : Dev nD) : Vec F S768x512 .f32 := m ((c : Thread nD τ).loc main_arg3)
abbrev argO (c : Dev nD) : Vec F S512x768 .f32 := m ((c : Thread nD τ).loc main_arg4)

/-- A device's attention. -/
def attnAt (c : Dev nD) : Vec F S512x512 .bf16 := attnOf (argX m c) (argQ m c) (argK m c) (argV m c)

/-- Two tiles added. -/
def plus (a b : Vec F S128x256 .bf16) : FVec F S128x256 .bf16 :=
  shapeCast S128x256 (addf a b) shapeCasts_S128x256_S128x256

/-- A device's tile `t` after `w` rounds. -/
def tileAt : ℕ → Dev nD → Fin 12 → FVec F S128x256 .bf16
  | 0, c, t => tileOf (argO m c) (rowsOf (attnAt m c) (rowOf t)) t
  | w + 1, c, t => plus (tileAt w c t) (tileAt w (peer (dirN w t) c) t)

/-! ## The cells -/

/-- A round and a tile. -/
abbrev Ex := Fin 3 × Fin 12
/-- A device's own semaphores: the copies', the departures', the arrivals'. -/
abbrev Own := Fin 5 ⊕ Ex ⊕ Ex

/-- The place of an exchange in the order they are made. -/
abbrev num (e : Ex) : ℕ := 12 * e.1.val + e.2.val

abbrev copyO (k : Fin 5) : Own := .inl k
abbrev sendO (w : Fin 3) (t : Fin 12) : Own := .inr (.inl (w, t))
abbrev recvO (w : Fin 3) (t : Fin 12) : Own := .inr (.inr (w, t))

abbrev ownS : Own → SemLoc sig
  | .inl k => .dma (copyS k)
  | .inr (.inl e) => .dma (sendS e.1 e.2)
  | .inr (.inr e) => .dma (recvS e.1 e.2)

/-- Which of a device's own semaphores a semaphore is. -/
def whichOwn : SemLoc sig → Option Own
  | .reg _ => none
  | .dma s =>
    if s.val < 1 then none
    else if s.val < 6 then some (.inl ⟨(s.val - 1) % 5, Nat.mod_lt _ (by decide)⟩)
    else if s.val < 42 then some (.inr (.inl (⟨(s.val - 6) / 12 % 3, Nat.mod_lt _ (by decide)⟩, ⟨(s.val - 6) % 12, Nat.mod_lt _ (by decide)⟩)))
    else some (.inr (.inr (⟨(s.val - 42) / 12 % 3, Nat.mod_lt _ (by decide)⟩, ⟨(s.val - 42) % 12, Nat.mod_lt _ (by decide)⟩)))

theorem which_copy : ∀ k : Fin 5, whichOwn (.dma (copyS k)) = some (copyO k) := by decide +kernel
theorem which_send : ∀ (w : Fin 3) (t : Fin 12), whichOwn (.dma (sendS w t)) = some (sendO w t) := by decide +kernel
theorem which_recv : ∀ (w : Fin 3) (t : Fin 12), whichOwn (.dma (recvS w t)) = some (recvO w t) := by decide +kernel

theorem which_own : ∀ o : Own, whichOwn (ownS o) = some o
  | .inl k => which_copy k
  | .inr (.inl e) => which_send e.1 e.2
  | .inr (.inr e) => which_recv e.1 e.2

theorem ownS_inj : Function.Injective ownS := fun a b h =>
  Option.some.inj ((which_own a).symm.trans ((congrArg whichOwn h).trans (which_own b)))

theorem ownS_ne_bar (o : Own) : ownS o ≠ .reg barS := fun h => by
  have := (which_own o).symm.trans (congrArg whichOwn h); exact absurd this (by simp [whichOwn])

abbrev barCell (c : Dev nD) : GSem nD τ sig := ((c : Thread nD τ), .reg barS)
abbrev ownCell (c : Dev nD) (o : Own) : GSem nD τ sig := ((c : Thread nD τ), ownS o)
abbrev recvCell (c : Dev nD) (w : Fin 3) (t : Fin 12) : GSem nD τ sig := ((c : Thread nD τ), .dma (recvS w t))
abbrev sendCell (c : Dev nD) (w : Fin 3) (t : Fin 12) : GSem nD τ sig := ((c : Thread nD τ), .dma (sendS w t))
abbrev copyCell (c : Dev nD) (k : Fin 5) : GSem nD τ sig := ((c : Thread nD τ), .dma (copyS k))

/-! ## Amounts -/

/-- What a tile's transfer counts. -/
abbrev tileN : ℕ := (workT 0).view.dmaCredit

/-- What an argument's copy counts. -/
abbrev copyN : Fin 5 → ℕ
  | 0 => xM.view.dmaCredit
  | 1 => wqM.view.dmaCredit
  | 2 => wkM.view.dmaCredit
  | 3 => wvM.view.dmaCredit
  | 4 => woM.view.dmaCredit

abbrev ownN : Own → ℕ
  | .inl k => copyN k
  | .inr _ => tileN

theorem tileN_pos : 0 < tileN := View.dmaCredit_pos _ (by decide)
theorem copyN_pos : ∀ k : Fin 5, 0 < copyN k
  | 0 => View.dmaCredit_pos _ (by decide)
  | 1 => View.dmaCredit_pos _ (by decide)
  | 2 => View.dmaCredit_pos _ (by decide)
  | 3 => View.dmaCredit_pos _ (by decide)
  | 4 => View.dmaCredit_pos _ (by decide)
theorem ownN_pos : ∀ o : Own, 0 < ownN o
  | .inl k => copyN_pos k
  | .inr _ => tileN_pos

theorem workT_credit (t : Fin 12) : (workT t).view.dmaCredit = tileN := rfl
theorem slotT_credit (w : Fin 3) (t : Fin 12) : (slotT w t).view.dmaCredit = tileN := rfl

/-! ## Payloads -/

/-- A slot of device `c`, at contents not chosen. -/
def slotAny (c : Dev nD) (w : Fin 3) (t : Fin 12) : sProp 𝕄 :=
  iprop(∃ f : Buf (Elt F) ((slotT w t).view.loc (c : Thread nD τ)), (slotT w t).view.loc (c : Thread nD τ) ↦[(slotT w t).view.set]{fullShare} f)

/-- A slot handed over, with the arrival semaphore behind it open. -/
def landing (c : Dev nD) (w : Fin 3) (t : Fin 12) : sProp 𝕄 :=
  iprop(slotAny (F := F) c w t ∗ reached ER (recvCell c w t) 0)

/-- What the device met in direction `k` pays to `c` when they meet: the slots it will send into. -/
def barPay (c : Dev nD) (k : Fin 3) : sProp 𝕄 :=
  bigSep Finset.univ fun t : Fin 12 => landing (F := F) (peer k c) (roundOf k t) t

/-- A whole buffer of device `c` at given contents. -/
abbrev held (c : Dev nD) (b : Ref sig .tc) (f : b.ty.Contents (Elt F)) : sProp 𝕄 :=
  (Memref.whole b).view.loc (c : Thread nD τ) ↦{fullShare} f

/-- What an argument's copy leaves: the argument, and the buffer holding it. -/
def copyPay (c : Dev nD) : Fin 5 → sProp 𝕄
  | 0 => iprop(held c cc0_scratch0 (argX m c) ∗ held c main_arg0 (argX m c))
  | 1 => iprop(held c cc0_scratch1 (argQ m c) ∗ held c main_arg1 (argQ m c))
  | 2 => iprop(held c cc0_scratch2 (argK m c) ∗ held c main_arg2 (argK m c))
  | 3 => iprop(held c cc0_scratch3 (argV m c) ∗ held c main_arg3 (argV m c))
  | 4 => iprop(held c cc0_scratch4 (argO m c) ∗ held c main_arg4 (argO m c))

/-- A tile of device `c`'s working array, holding `X`. -/
abbrev workAt (c : Dev nD) (t : Fin 12) (X : FVec F S128x256 .bf16) : sProp 𝕄 :=
  owns (c : Thread nD τ) (workT t) fullShare X
/-- A slot of device `c`, holding `X`. -/
abbrev slotAt (c : Dev nD) (w : Fin 3) (t : Fin 12) (X : FVec F S128x256 .bf16) : sProp 𝕄 :=
  owns (c : Thread nD τ) (slotT w t) fullShare X

/-- What the one raise of each of a device's own semaphores hands over. -/
def ownPay (c : Dev nD) : Own → sProp 𝕄
  | .inl k => copyPay m c k
  | .inr (.inl e) => workAt c e.2 (tileAt m e.1.val c e.2)
  | .inr (.inr e) => slotAt c e.1 e.2 (tileAt m e.1.val (peer (dir e.1 e.2) c) e.2)

/-- One round on every semaphore: three duties at the meeting, one on each own semaphore. -/
def sched : Rounds.Schedule (GSem nD τ sig) (Fin 3) 𝕄 where
  duties g r := if r = 0 then (if g.2 = .reg barS then Finset.univ else if (whichOwn g.2).isSome then {0} else ∅) else ∅
  amount g _ _ := match whichOwn g.2 with | some o => ownN o | none => 1
  payload g _ d := if g.2 = .reg barS then barPay g.1.1 d else match whichOwn g.2 with | some o => ownPay m g.1.1 o | none => iprop(emp)
  unitless _ := False
  amount_pos g _ _ _ := by
    cases whichOwn g.2 with
    | none => exact Nat.one_pos
    | some o => exact ownN_pos o

instance sched_storable (g : GSem nD τ sig) (r : ℕ) (d : Fin 3) :
    BI.Storable (upEmb : UEmb _ 𝕄) ((sched m).payload g r d) := by
  dsimp only [sched]
  split
  · unfold barPay landing slotAny; infer_instance
  split
  · next o _ =>
    match o with
    | .inl 0 | .inl 1 | .inl 2 | .inl 3 | .inl 4 => unfold ownPay copyPay; infer_instance
    | .inr (.inl e) => unfold ownPay; infer_instance
    | .inr (.inr e) => unfold ownPay; infer_instance
  · infer_instance

section Sched

variable (c : Dev nD)

theorem duties_bar : (sched m).duties (barCell c) 0 = Finset.univ := by
  dsimp only [sched]; rw [if_pos rfl, if_pos rfl]
theorem duties_own (o : Own) : (sched m).duties (ownCell c o) 0 = {0} := by
  dsimp only [sched]; rw [if_pos rfl, if_neg (ownS_ne_bar o), which_own]; rfl
theorem duties_later (g : GSem nD τ sig) : ∀ r, 1 ≤ r → (sched m).duties g r = ∅ :=
  fun r hr => by dsimp only [sched]; rw [if_neg (fun h => by omega)]
theorem amount_bar (d : Fin 3) : (sched m).amount (barCell c) 0 d = 1 := rfl
theorem amount_own (o : Own) (d : Fin 3) : (sched m).amount (ownCell c o) 0 d = ownN o := by
  dsimp only [sched]; rw [which_own]
theorem expect_bar : (sched m).expect (barCell c) 0 = 3 := by
  unfold Schedule.expect Schedule.amountOf; rw [duties_bar]; rfl
theorem expect_own (o : Own) : (sched m).expect (ownCell c o) 0 = ownN o := by
  unfold Schedule.expect Schedule.amountOf; rw [duties_own, Finset.sum_singleton, amount_own]
theorem payload_bar (d : Fin 3) : (sched m).payload (barCell c) 0 d = barPay c d := by
  dsimp only [sched]; rw [if_pos rfl]
theorem payload_own (o : Own) (d : Fin 3) : (sched m).payload (ownCell c o) 0 d = ownPay m c o := by
  dsimp only [sched]; rw [if_neg (ownS_ne_bar o), which_own]
theorem rest_bar : bigSep ((sched m).duties (barCell c) 0 \ ∅) (fun d => (sched m).payload (barCell c) 0 d)
    = bigSep Finset.univ fun d : Fin 3 => barPay (F := F) c d := by
  rw [duties_bar, Finset.sdiff_empty]; exact bigSep_congr fun d _ => payload_bar m c d
theorem rest_own (o : Own) : bigSep ((sched m).duties (ownCell c o) 0 \ ∅) (fun d => (sched m).payload (ownCell c o) 0 d)
    = ownPay m c o := by
  rw [duties_own, Finset.sdiff_empty, bigSep_singleton, payload_own]

end Sched

/-! ## What is owed, and in what order it may be waited for -/

/-- The arrivals device `c` still owes when the exchanges numbered below `n` are made. -/
def owed (c : Dev nD) (n : ℕ) : CellTallies nD τ sig Unit :=
  ∑ e ∈ Finset.univ.filter (fun e : Ex => n ≤ num e), tallyAt (recvCell (peer (dir e.1 e.2) c) e.1 e.2) () tileN

theorem owed_step (c : Dev nD) (w : Fin 3) (t : Fin 12) :
    owed c (12 * w.val + t.val) = owed c (12 * w.val + t.val + 1) + tallyAt (recvCell (peer (dir w t) c) w t) () tileN := by
  unfold owed
  have h : Finset.univ.filter (fun e : Ex => 12 * w.val + t.val ≤ num e)
      = insert (w, t) (Finset.univ.filter (fun e : Ex => 12 * w.val + t.val + 1 ≤ num e)) := by
    revert w t; decide +kernel
  rw [h, Finset.sum_insert (by simp only [Finset.mem_filter, Finset.mem_univ, true_and, num]; omega), add_comm]

theorem owed_last (c : Dev nD) : owed c 36 = 0 := by
  unfold owed
  rw [show Finset.univ.filter (fun e : Ex => 36 ≤ num e) = ∅ from by decide +kernel, Finset.sum_empty]

/-- What device `c` owes at launch. -/
def owedAll (c : Dev nD) : CellTallies nD τ sig Unit :=
  ((owed c 0 + tallyAt (barCell (peer 2 c)) () 1) + tallyAt (barCell (peer 1 c)) () 1) + tallyAt (barCell (peer 0 c)) () 1

def L (g : GSem nD τ sig) : Finset Unit := if g.1.2 = .tc then {()} else ∅
/-- The meeting at 1, an arrival at 2 and its place in the order, everything else at 0. -/
def lv (g : GSem nD τ sig) (_ : Unit) : ℕ :=
  if g.2 = .reg barS then 1 else match whichOwn g.2 with | some (.inr (.inr e)) => 2 + num e | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (w : Fin 3) (t : Fin 12) : lv (recvCell c w t) () = 2 + (12 * w.val + t.val) := by
  dsimp only [lv]; rw [if_neg (ownS_ne_bar (recvO w t)), which_recv]
theorem lv_send (c : Dev nD) (w : Fin 3) (t : Fin 12) : lv (sendCell c w t) () = 0 := by
  dsimp only [lv]; rw [if_neg (ownS_ne_bar (sendO w t)), which_send]
theorem lv_copy (c : Dev nD) (k : Fin 5) : lv (copyCell c k) () = 0 := by
  dsimp only [lv]; rw [if_neg (ownS_ne_bar (copyO k)), which_copy]
theorem lv_bar (c : Dev nD) : lv (barCell c) () = 1 := by
  dsimp only [lv]; rw [if_pos rfl]

theorem tallyAt_pos {g g' : GSem nD τ sig} {u : Unit} {n : ℕ} (h : 0 < (tallyAt g () n : CellTallies nD τ sig Unit) g' u) : g' = g := by
  rw [tallyAt_apply] at h
  split at h
  · next hg => exact hg.1
  · exact absurd h (Nat.lt_irrefl 0)

theorem owed_pos {c : Dev nD} {n : ℕ} {g : GSem nD τ sig} {u : Unit} (h : 0 < owed c n g u) :
    ∃ (w : Fin 3) (t : Fin 12), n ≤ 12 * w.val + t.val ∧ g = recvCell (peer (dir w t) c) w t := by
  unfold owed at h
  rw [Finset.sum_apply, Finsupp.finset_sum_apply] at h
  obtain ⟨e, he, hpos⟩ := Finset.exists_ne_zero_of_sum_ne_zero h.ne'
  exact ⟨e.1, e.2, (Finset.mem_filter.mp he).2, tallyAt_pos (Nat.pos_of_ne_zero hpos)⟩

/-- While everything owed is an arrival numbered `n` or more, a semaphore placed below may be waited for. -/
theorem mayWait (c : Dev nD) (sm : SemLoc sig) (n : ℕ) (h : lv ((c : Thread nD τ), sm) () ≤ 1 + n) :
    (levAts L lv : sProp 𝕄) ⊢ MayWait (c : Thread nD τ) sm () (owed c n) :=
  MayOwe.of_cut (L := L) (lev := lv) (1 + n)
    (fun p hp => by rw [Finset.mem_singleton.mp hp, L_tc]; exact Finset.mem_singleton_self _)
    (fun g u hg => by obtain ⟨w, t, -, rfl⟩ := owed_pos hg; rw [L_tc]; exact Finset.mem_singleton_self _)
    (fun p hp => by rw [Finset.mem_singleton.mp hp]; exact h)
    (fun g u hg => by obtain ⟨w, t, hn, rfl⟩ := owed_pos hg; rw [lv_recv]; omega)

theorem owedAll_pos {c : Dev nD} {g : GSem nD τ sig} {u : Unit} (h : 0 < owedAll c g u) : u ∈ L g ∧ 0 < lv g u := by
  have key : ∀ (O : CellTallies nD τ sig Unit) (k : Fin 3), (0 < O g u → u ∈ L g ∧ 0 < lv g u) →
      0 < (O + tallyAt (barCell (peer k c)) () 1) g u → u ∈ L g ∧ 0 < lv g u := fun O k ih h => by
    rw [Pi.add_apply, Finsupp.add_apply] at h
    rcases Nat.add_pos_iff_pos_or_pos.mp h with h | h
    · exact ih h
    · obtain rfl := tallyAt_pos h
      exact ⟨by rw [L_tc]; exact Finset.mem_singleton_self _, by rw [lv_bar]; decide⟩
  refine key _ 0 (key _ 1 (key _ 2 fun h => ?_)) h
  obtain ⟨w, t, -, rfl⟩ := owed_pos h
  exact ⟨by rw [L_tc]; exact Finset.mem_singleton_self _, by rw [lv_recv]; omega⟩

/-! ## What every device may consult -/

def barEmb : Dev nD ↪ GSem nD τ sig := ⟨fun c => barCell c, fun _ _ h => congrArg (fun g : GSem nD τ sig => g.1.1) h⟩
def ownEmb : Dev nD × Own ↪ GSem nD τ sig :=
  ⟨fun p => ownCell p.1 p.2, fun _ _ h =>
    Prod.ext (congrArg (fun g : GSem nD τ sig => g.1.1) h) (ownS_inj (congrArg Prod.snd h))⟩

abbrev barCells : Finset (GSem nD τ sig) := Finset.univ.map barEmb
abbrev ownCells : Finset (GSem nD τ sig) := Finset.univ.map ownEmb

theorem bar_mem (c : Dev nD) : barCell c ∈ (barCells ∪ ownCells : Finset (GSem nD τ sig)) :=
  Finset.mem_union_left _ (Finset.mem_map_of_mem barEmb (Finset.mem_univ c))
theorem own_mem (c : Dev nD) (o : Own) : ownCell c o ∈ (barCells ∪ ownCells : Finset (GSem nD τ sig)) :=
  Finset.mem_union_right _ (Finset.mem_map_of_mem ownEmb (Finset.mem_univ (c, o)))

/-- Every semaphore's invariant, that every meeting's round is reached, and the order of waiting. -/
def ctx (K : GSem nD τ sig → ℕ) : sProp 𝕄 :=
  iprop((bigSep (barCells ∪ ownCells) fun g => cellInv ER (sched m) (K g) g) ∗ (bigSep barCells fun g => reached ER g 0)
    ∗ levAts L lv)

instance ctx_persistent (K : GSem nD τ sig → ℕ) : BI.Persistent (ctx m K) := by unfold ctx; infer_instance

variable {m} {K : GSem nD τ sig → ℕ}

theorem inv_at {g : GSem nD τ sig} (hg : g ∈ (barCells ∪ ownCells : Finset (GSem nD τ sig))) :
    ctx m K ⊢ cellInv ER (sched m) (K g) g := by
  have h : (bigSep (barCells ∪ ownCells) fun g => (cellInv ER (sched m) (K g) g : sProp 𝕄)) ⊢ cellInv ER (sched m) (K g) g :=
    bigSep_elim hg
  unfold ctx; iintro ⟨H, -, -⟩; iapply h; iexact H
theorem ctx_own (c : Dev nD) (o : Own) : ctx m K ⊢ cellInv ER (sched m) (K (ownCell c o)) (ownCell c o) := inv_at (own_mem c o)
theorem ctx_bar (c : Dev nD) : ctx m K ⊢ cellInv ER (sched m) (K (barCell c)) (barCell c) := inv_at (bar_mem c)
theorem ctx_reached (c : Dev nD) : ctx m K ⊢ reached ER (barCell c) 0 := by
  have h : (bigSep barCells fun g => (reached ER g 0 : sProp 𝕄)) ⊢ reached ER (barCell c) 0 :=
    bigSep_elim (Finset.mem_map_of_mem barEmb (Finset.mem_univ c))
  unfold ctx; iintro ⟨-, H, -⟩; iapply h; iexact H
theorem ctx_levels : ctx m K ⊢ levAts L lv := by
  unfold ctx; iintro ⟨-, -, H⟩; iexact H

/-- A semaphore whose one round is over is closed, its counter back at zero. -/
theorem close_own (c : Dev nD) (o : Own) :
    iprop(ctx m K ∗ atPos ER (ownCell c o) (0 + 1) ∅ 0) ⊢ (|={Set.univ}=> semVal (ownCell c o) 0 : sProp 𝕄) := by
  iintro ⟨Hc, Hat⟩
  iapply (Rounds.cell_close ER (sched m) (Set.mem_univ (K (ownCell c o))) (fun h => h) (R := 0 + 1) (duties_later m (ownCell c o)))
  isplitl [Hc]; · iapply (ctx_own c o) $$ Hc
  iexact Hat
theorem close_bar (c : Dev nD) :
    iprop(ctx m K ∗ atPos ER (barCell c) (0 + 1) ∅ 0) ⊢ (|={Set.univ}=> semVal (barCell c) 0 : sProp 𝕄) := by
  iintro ⟨Hc, Hat⟩
  iapply (Rounds.cell_close ER (sched m) (Set.mem_univ (K (barCell c))) (fun h => h) (R := 0 + 1) (duties_later m (barCell c)))
  isplitl [Hc]; · iapply (ctx_bar c) $$ Hc
  iexact Hat

end Cert.KernelIdeal.Mesh

end
-- ==== Proof.Mesh.Steps.lean ====
/- What each step of the body does: from what it needs to what it leaves. -/
module

public import proofs.«01_k».proof.Proof.Mesh.Protocol

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to a state satisfying `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem runs_bind {α β : Type} (c : Dev nD) (p : Prog (TpuEff nD τ sig (Elt F) Λ₀ .tc) α) (k : α → Prog (TpuEff nD τ sig (Elt F) Λ₀ .tc) β)
    (P : sProp 𝕄) (R : α → sProp 𝕄) (Q : β → sProp 𝕄) (h : P ⊢ runs c p R) (h' : ∀ a, R a ⊢ runs c (k a) Q) : P ⊢ runs c (p >>= k) Q := by
  show P ⊢ wp _ _ _ _ _
  rw [wp_bind]
  exact h.trans (wp_mono _ _ _ h')

/-- A step's specification, used at the head of a longer proof. -/
theorem runs_then (c : Dev nD) {p : Code F} {P R : sProp 𝕄} (h : P ⊢ runs c p (fun _ => R)) {Q : PUnit → sProp 𝕄} :
    P ⊢ iprop((R -∗ Q ⟨⟩) -∗ runs c p Q) := by
  have key : iprop(P ∗ (R -∗ Q ⟨⟩)) ⊢ runs c p Q :=
    (show iprop(P ∗ (R -∗ Q ⟨⟩)) ⊢ iprop(runs c p (fun _ => R) ∗ (R -∗ Q ⟨⟩)) from sep_mono_left h).trans
      ((wp_frame_r _ _ _).trans (wp_mono _ _ _ fun _ => by iintro ⟨HR, Hk⟩; iapply Hk; iexact HR))
  iintro HP Hk
  iapply key
  isplitl [HP]; · iexact HP
  iexact Hk

theorem bigSep_add {I : Type} [DecidableEq I] {i : I} {s : Finset I} (h : i ∉ s) (Φ : I → sProp 𝕄) :
    bigSep (insert i s) Φ = iprop(Φ i ∗ bigSep s Φ) := bigSep_insert h

/-- One step per element of a list, each turning that element's share `A` into `B` and moving the common state on. -/
theorem runs_chain (c : Dev nD) (f : Fin 12 → Code F) (A B : Fin 12 → sProp 𝕄) (J : ℕ → sProp 𝕄) :
    ∀ (l : List (Fin 12)) (a : ℕ), (∀ t ∈ l, iprop(A t ∗ J t.val) ⊢ runs c (f t) (fun _ => iprop(B t ∗ J (t.val + 1)))) → l.Nodup → l.map Fin.val = List.range' a l.length →
      iprop(bigSep l.toFinset A ∗ J a) ⊢ runs c (Pipeline.chain (l.map f)) (fun _ => iprop(bigSep l.toFinset B ∗ J (a + l.length)))
  | [], a, _, _, _ => by
    rw [List.toFinset_nil, bigSep_empty, bigSep_empty]
    show _ ⊢ wp _ _ _ (.ret _) _
    rw [wp_ret]
    iintro H; imodintro; iexact H
  | t :: l, a, h, hn, hl => by
    rw [List.map_cons, List.length_cons, List.range'_succ] at hl
    obtain ⟨ht, hl⟩ := List.cons.inj hl
    subst ht
    have hnt : t ∉ l.toFinset := by rw [List.mem_toFinset]; exact (List.nodup_cons.mp hn).1
    rw [List.toFinset_cons, bigSep_add hnt, bigSep_add hnt, List.map_cons, Pipeline.chain_cons]
    refine runs_bind c (f t) _ _ (fun _ => iprop((B t ∗ J (t.val + 1)) ∗ bigSep l.toFinset A)) _ ?_ fun _ => ?_
    · refine (show _ ⊢ iprop(runs c (f t) (fun _ => iprop(B t ∗ J (t.val + 1))) ∗ bigSep l.toFinset A) from ?_).trans (wp_frame_r _ _ _)
      iintro ⟨⟨HA, Hl⟩, HJ⟩
      isplitr [Hl]
      · iapply (h t List.mem_cons_self); isplitl [HA] <;> iassumption
      · iexact Hl
    · have ih := runs_chain c f A B J l (t.val + 1) (fun t' ht' => h t' (List.mem_cons_of_mem _ ht')) (List.nodup_cons.mp hn).2 hl
      refine (show _ ⊢ iprop(runs c (Pipeline.chain (l.map f)) (fun _ => iprop(bigSep l.toFinset B ∗ J (t.val + 1 + l.length))) ∗ B t) from ?_).trans
        ((wp_frame_r _ _ _).trans (wp_mono _ _ _ fun _ => ?_))
      · iintro ⟨⟨HB, HJ⟩, Hl⟩
        isplitr [HB]
        · iapply ih; isplitl [Hl] <;> iassumption
        · iexact HB
      · rw [List.length_cons, show t.val + (l.length + 1) = t.val + 1 + l.length from by omega]
        iintro ⟨⟨Hl, HJ⟩, HB⟩
        isplitr [HJ]
        · isplitl [HB] <;> iassumption
        · iexact HJ

/-! ## The attention array -/

/-- The place of an element's head in the order heads are stored. -/
abbrev headNo (i : S512x512.Idx) : ℕ := 8 * ((i 0).val / 256) + (i 1).val / 64

variable (m : (ℓ : Loc nD τ sig) → Buf (Elt F) ℓ)

/-- The attention array with its first `n` heads stored. -/
def attnSt (c : Dev nD) (n : ℕ) : sProp 𝕄 :=
  iprop(∃ f : Vec F S512x512 .bf16, ⌜∀ i : S512x512.Idx, headNo i < n → f i = attnAt m c i⌝ ∗ held c cc0_scratch5 f)

/-- The position of an element inside its head's rectangle. -/
abbrev headIdx (i : S512x512.Idx) : S256x64.Idx :=
  Fin.cons ⟨(i 0).val % 256, Nat.mod_lt _ (by decide)⟩ (Fin.cons ⟨(i 1).val % 64, Nat.mod_lt _ (by decide)⟩ fun a => a.elim0)

theorem headR_emb (b : Fin 2) (h : Fin 8) (i : S512x512.Idx) (hb : (i 0).val / 256 = b.val) (hh : (i 1).val / 64 = h.val) :
    (headR b h).emb (headIdx i) = i := by
  funext a
  apply Fin.ext
  have h0 := Nat.div_add_mod (i 0).val 256
  have h1 := Nat.div_add_mod (i 1).val 64
  match a with
  | 0 => show 256 * b.val + 1 * ((i 0).val % 256) = (i 0).val; omega
  | 1 => show 64 * h.val + 1 * ((i 1).val % 64) = (i 1).val; omega

theorem headR_not_mem (b : Fin 2) (h : Fin 8) (i : S512x512.Idx) (hn : headNo i ≠ 8 * b.val + h.val) (j : S256x64.Idx) :
    (headR b h).emb j ≠ i := by
  rintro rfl
  apply hn
  have h0 : (((headR b h).emb j) 0).val = 256 * b.val + 1 * (j 0).val := rfl
  have h1 : (((headR b h).emb j) 1).val = 64 * h.val + 1 * (j 1).val := rfl
  have l0 : (j 0).val < 256 := (j 0).isLt
  have l1 : (j 1).val < 64 := (j 1).isLt
  unfold headNo
  rw [h0, h1]; omega

/-- Writing the next head keeps the array in agreement. -/
theorem head_agrees (c : Dev nD) (b : Fin 2) (h : Fin 8) (f : Vec F S512x512 .bf16)
    (hf : ∀ i : S512x512.Idx, headNo i < 8 * b.val + h.val → f i = attnAt m c i) (i : S512x512.Idx) (hi : headNo i < 8 * b.val + h.val + 1) :
    (attnM.access (headR b h)).write (Elt F) f (headOf (argX m c) (argQ m c) (argK m c) (argV m c) b h) Finset.univ i = attnAt m c i := by
  by_cases hn : headNo i = 8 * b.val + h.val
  · have hb : (i 0).val / 256 = b.val := by have : (i 1).val < 512 := (i 1).isLt; unfold headNo at hn; omega
    have hh : (i 1).val / 64 = h.val := by unfold headNo at hn; omega
    have e : (attnM.access (headR b h)).emb (headIdx i) = i := headR_emb b h i hb hh
    refine (congrArg _ e.symm).trans ((View.write_emb_of_mem (v := attnM.access (headR b h)) f _ (Finset.mem_univ _)).trans ?_)
    unfold attnAt attnOf
    have eb : b = ⟨(i 0).val / 256, Nat.div_lt_of_lt_mul (i 0).isLt⟩ := Fin.ext hb.symm
    have eh : h = ⟨(i 1).val / 64, Nat.div_lt_of_lt_mul (i 1).isLt⟩ := Fin.ext hh.symm
    rw [← eb, ← eh]
    rfl
  · refine Eq.trans (View.write_of_not_mem (v := attnM.access (headR b h)) f _ _ (i := i) ?_) (hf i (by omega))
    intro hm
    obtain ⟨j, -, hj⟩ := Finset.mem_map.mp hm
    exact headR_not_mem b h i hn j hj

/-- Storing one more head. -/
theorem storeHead_step (c : Dev nD) (b : Fin 2) (h : Fin 8) :
    attnSt m c (8 * b.val + h.val)
      ⊢ runs c (storeHead (argX m c) (argQ m c) (argK m c) (argV m c) b h) (fun _ => attnSt m c (8 * b.val + h.val + 1)) := by
  unfold attnSt
  simp only [storeHead, Prog.lift, Prog.bind_op, Prog.bind_ret, Prog.pure_eq_ret]
  iintro ⟨%f, %hf, H⟩
  iapply (wp_load_rect 𝒱₀ (c : Thread nD τ) none Set.univ (m := attnM) (r := headR b h) (f := f) (S := Finset.univ) (Finset.subset_univ _)) $$ H
  iintro H
  iapply (wp_store 𝒱₀ (c : Thread nD τ) none Set.univ (m := attnM) (r := headR b h) (f := f) (S := Finset.univ) (Finset.subset_univ _)) $$ H
  iintro H
  rw [wp_ret]
  imodintro
  iexists _
  isplitr [H]
  rotate_left
  · iexact H
  · ipureintro
    exact head_agrees m c b h f hf

/-- Every head of one batch. -/
theorem heads_step (c : Dev nD) (b : Fin 2) :
    attnSt m c (8 * b.val)
      ⊢ runs c (Pipeline.chain (heads.map (storeHead (argX m c) (argQ m c) (argK m c) (argV m c) b))) (fun _ => attnSt m c (8 * b.val + 8)) := by
  have key : ∀ (l : List (Fin 8)) (a : ℕ), l.map Fin.val = List.range' a l.length →
      attnSt m c (8 * b.val + a) ⊢ runs c (Pipeline.chain (l.map (storeHead (argX m c) (argQ m c) (argK m c) (argV m c) b)))
        (fun _ => attnSt m c (8 * b.val + (a + l.length))) := by
    intro l
    induction l with
    | nil =>
      intro a _
      show _ ⊢ wp _ _ _ (.ret _) _
      rw [wp_ret]
      iintro H; imodintro; iexact H
    | cons h l ih =>
      intro a hl
      rw [List.map_cons, List.length_cons, List.range'_succ] at hl
      obtain ⟨ha, hl⟩ := List.cons.inj hl
      subst ha
      rw [List.map_cons, Pipeline.chain_cons, List.length_cons, show h.val + (l.length + 1) = h.val + 1 + l.length from by omega]
      exact runs_bind c _ _ _ _ _ (storeHead_step m c b h) fun _ => ih (h.val + 1) hl
  exact key heads 0 rfl

/-! ## Tiles -/

/-- A tile of the working array at contents not chosen. -/
def workAny (c : Dev nD) (t : Fin 12) : sProp 𝕄 :=
  iprop(∃ f : Buf (Elt F) ((workT t).view.loc (c : Thread nD τ)), (workT t).view.loc (c : Thread nD τ) ↦[(workT t).view.set]{fullShare} f)

/-- A tile of the result's buffer. -/
abbrev outT (t : Fin 12) : Memref sig .tc .vmem S128x256 .f32 := outM.slice (tileR t) (fun _ => rfl)
def outAny (c : Dev nD) (t : Fin 12) : sProp 𝕄 :=
  iprop(∃ f : Buf (Elt F) ((outT t).view.loc (c : Thread nD τ)), (outT t).view.loc (c : Thread nD τ) ↦[(outT t).view.set]{fullShare} f)
abbrev outAt (c : Dev nD) (t : Fin 12) (X : FVec F S128x256 .f32) : sProp 𝕄 := owns (c : Thread nD τ) (outT t) fullShare X

theorem owns_intro' (c : Dev nD) {e : EltTy} (M : Memref sig .tc .vmem S128x256 e) (f : Buf (Elt F) (M.view.loc (c : Thread nD τ)))
    (X : S128x256.Idx → Elt F e) (h : M.view.read (Elt F) f = X) :
    (M.view.loc (c : Thread nD τ) ↦[M.view.set]{fullShare} f : sProp 𝕄) ⊢ owns (c : Thread nD τ) M fullShare X := by
  subst h; exact owns_intro _ _ _ _

theorem workAt_any (c : Dev nD) (t : Fin 12) (X : FVec F S128x256 .bf16) : workAt c t X ⊢ workAny (F := F) c t := by
  unfold workAt workAny owns; iintro ⟨%f, -, H⟩; iexists f; iexact H

theorem slotAt_any (c : Dev nD) (w : Fin 3) (t : Fin 12) (X : FVec F S128x256 .bf16) : slotAt c w t X ⊢ slotAny (F := F) c w t := by
  unfold slotAt slotAny owns; iintro ⟨%f, -, H⟩; iexists f; iexact H

/-- Replacing a tile. -/
theorem storeTile_step (c : Dev nD) (t : Fin 12) (v : FVec F S128x256 .bf16) :
    workAny c t ⊢ runs c (storeTile t v) (fun _ => workAt c t v) := by
  unfold workAny
  simp only [storeTile, Prog.lift, Prog.bind_op, Prog.bind_ret, Prog.pure_eq_ret]
  iintro ⟨%f, H⟩
  iapply (wp_load_rect 𝒱₀ (c : Thread nD τ) none Set.univ (m := workM) (r := tileR t) (f := f) (S := (workT t).view.set) (Finset.Subset.refl _)) $$ H
  iintro H
  iapply (wp_store 𝒱₀ (c : Thread nD τ) none Set.univ (m := workM) (r := tileR t) (f := f) (S := (workT t).view.set) (Finset.Subset.refl _)) $$ H
  iintro H
  rw [wp_ret]
  imodintro
  unfold workAt owns
  iexists _
  isplitr [H]
  rotate_left
  · iexact H
  · ipureintro
    exact View.read_write_univ (v := workM.access (tileR t)) _ _

/-- The rows a tile reads are stored once the heads of its batch are. -/
theorem rows_read (c : Dev nD) (n : ℕ) (t : Fin 12) (hn : 8 * (t.val / 6) + 8 ≤ n) (f : Vec F S512x512 .bf16)
    (hf : ∀ i : S512x512.Idx, headNo i < n → f i = attnAt m c i) :
    (attnM.access (rowsR (rowOf t))).read (Elt F) f = rowsOf (attnAt m c) (rowOf t) := by
  funext i
  refine hf ((rowsR (rowOf t)).emb i) ?_
  have h0 : (((rowsR (rowOf t)).emb i) 0).val = 128 * (t.val / 3) + 1 * (i 0).val := rfl
  have h1 : (((rowsR (rowOf t)).emb i) 1).val = 0 + 1 * (i 1).val := rfl
  have l0 : (i 0).val < 128 := (i 0).isLt
  have l1 : (i 1).val < 512 := (i 1).isLt
  unfold headNo
  rw [h0, h1]; omega

/-- Computing a tile. -/
theorem makeTile_step (c : Dev nD) (n : ℕ) (t : Fin 12) (hn : 8 * (t.val / 6) + 8 ≤ n) :
    iprop(workAny c t ∗ attnSt m c n) ⊢ runs c (makeTile (argO m c) t) (fun _ => iprop(workAt c t (tileAt m 0 c t) ∗ attnSt m c n)) := by
  unfold attnSt
  simp only [makeTile, Prog.lift, Prog.bind_op, Prog.bind_ret]
  iintro ⟨HW, ⟨%f, %hf, H⟩⟩
  iapply (wp_load_rect 𝒱₀ (c : Thread nD τ) none Set.univ (m := attnM) (r := rowsR (rowOf t)) (f := f) (S := Finset.univ) (Finset.subset_univ _)) $$ H
  iintro H
  rw [rows_read m c n t hn f hf]
  refine (show _ ⊢ iprop(runs c (storeTile t (tileOf (argO m c) (rowsOf (attnAt m c) (rowOf t)) t)) (fun _ => workAt c t (tileAt m 0 c t)) ∗ held c cc0_scratch5 f) from ?_).trans
    ((wp_frame_r _ _ _).trans (wp_mono _ _ _ fun _ => ?_))
  · iintro ⟨HW, H⟩
    isplitl [HW]
    · iapply (storeTile_step c t _) $$ HW
    · iexact H
  · iintro ⟨HW, H⟩
    isplitl [HW]; · iexact HW
    iexists f
    isplitr; · ipureintro; exact hf
    iexact H

/-- Writing a finished tile out. -/
theorem writeOut_step (c : Dev nD) (t : Fin 12) (X : FVec F S128x256 .bf16) :
    iprop(workAt c t X ∗ outAny c t) ⊢ runs c (writeOut t) (fun _ => iprop(workAny c t ∗ outAt c t (outTile X))) := by
  unfold workAt outAny owns
  simp only [writeOut, Prog.lift, Prog.bind_op, Prog.bind_ret, Prog.pure_eq_ret]
  iintro ⟨⟨%f, %hf, H⟩, ⟨%g, HO⟩⟩
  iapply (wp_load_rect 𝒱₀ (c : Thread nD τ) none Set.univ (m := workM) (r := tileR t) (f := f) (S := (workT t).view.set) (Finset.Subset.refl _)) $$ H
  iintro H
  iapply (wp_load_rect 𝒱₀ (c : Thread nD τ) none Set.univ (m := outM) (r := tileR t) (f := g) (S := (outT t).view.set) (Finset.Subset.refl _)) $$ HO
  iintro HO
  iapply (wp_store 𝒱₀ (c : Thread nD τ) none Set.univ (m := outM) (r := tileR t) (f := g) (S := (outT t).view.set) (Finset.Subset.refl _)) $$ HO
  iintro HO
  rw [wp_ret]
  imodintro
  isplitl [H]
  · unfold workAny; iexists f; iexact H
  · unfold outAt owns
    iexists _
    isplitr [HO]
    rotate_left
    · iexact HO
    · ipureintro
      refine (View.read_write_univ (v := outM.access (tileR t)) _ _).trans ?_
      exact congrArg outTile hf

/-! ## Exchanges -/

/-- What a device needs to send a tile, but for the other device's slot. -/
def armed (c : Dev nD) (w : Fin 3) (t : Fin 12) : sProp 𝕄 :=
  iprop(atPos ER (sendCell c w t) 0 ∅ 0 ∗ atPos ER (recvCell c w t) 0 ∅ 0 ∗ reached ER (sendCell c w t) 0
    ∗ dutyTok ER (sendCell c w t) 0 0 ∗ dutyTok ER (recvCell (peer (dir w t) c) w t) 0 0 ∗ cred (tallyAt (recvCell c w t) () tileN))

/-- With the slot. -/
def ready (c : Dev nD) (w : Fin 3) (t : Fin 12) : sProp 𝕄 :=
  iprop(armed (F := F) c w t ∗ landing (F := F) (peer (dir w t) c) w t)

/-- A tile under way. -/
def flying (c : Dev nD) (w : Fin 3) (t : Fin 12) : sProp 𝕄 :=
  iprop(atPos ER (sendCell c w t) 0 ∅ 0 ∗ atPos ER (recvCell c w t) 0 ∅ 0
    ∗ cred (tallyAt (sendCell c w t) () tileN) ∗ cred (tallyAt (recvCell c w t) () tileN))

/-- An exchange over: its slot back, its two counters at zero. -/
def over (c : Dev nD) (w : Fin 3) (t : Fin 12) : sProp 𝕄 :=
  iprop(slotAny (F := F) c w t ∗ semVal (sendCell c w t) 0 ∗ semVal (recvCell c w t) 0)

variable (K : GSem nD τ sig → ℕ)

/-- What is shared, and what is still owed. -/
def common (c : Dev nD) (n : ℕ) : sProp 𝕄 := iprop(ctx m K ∗ ∃ W, owes (c : Thread nD τ) (owed c n) W)

/-- Sending a tile. -/
theorem start_step (c : Dev nD) (w : Fin 3) (t : Fin 12) :
    iprop((workAt c t (tileAt m w.val c t) ∗ ready c w t) ∗ common m K c (12 * w.val + t.val))
      ⊢ runs c (start c w t) (fun _ => iprop(flying c w t ∗ common m K c (12 * w.val + t.val + 1))) := by
  unfold workAt ready armed landing slotAny common owns start
  simp only [Prog.lift]
  iintro ⟨⟨⟨%f, %hf, Hw⟩, ⟨HaS, HaR, #HrS, HtS, HtR, HcR⟩, ⟨%g, Hs⟩, #HrR⟩, #Hctx, ⟨%W, HO⟩⟩
  iapply (Rounds.wp_send_pointsTo 𝒱₀ ER (sched m) (c : Thread nD τ) none (c' := (peer (dir w t) c : Thread nD τ)) (src := workT t) (dst := slotT w t)
      (sS := .dma (sendS w t)) (sem := .dma (recvS w t)) (q := fullShare) (fs := f) (fd := g)
      (κ₁ := K (sendCell c w t)) (κ₂ := K (recvCell (peer (dir w t) c) w t)) (r₁ := 0) (r₂ := 0) (d₁ := 0) (d₂ := 0)
      (by rw [duties_own m c (sendO w t)]; exact Finset.mem_singleton_self _)
      (by rw [duties_own m _ (recvO w t)]; exact Finset.mem_singleton_self _)
      () () tileN rfl (amount_own m c (sendO w t) 0) (amount_own m _ (recvO w t) 0)
      (owed c (12 * w.val + t.val + 1)) (owed_step c w t) (W := W)
      (by rw [payload_own m c (sendO w t) 0]; exact owns_intro' c (workT t) f _ hf)
      (by
        rw [payload_own m _ (recvO w t) 0]
        refine owns_intro' (peer (dir w t) c) (slotT w t) _ _ ?_
        rw [View.read_write_univ, peer_peer]; exact hf)) $$ [Hw Hs HO HtS HtR]
  · isplitr; · iapply (ctx_own c (sendO w t)); iexact Hctx
    isplitr; · iapply (ctx_own (peer (dir w t) c) (recvO w t)); iexact Hctx
    isplitl [Hw]; · iexact Hw
    isplitl [Hs]; · iexact Hs
    isplitl [HO]; · iexact HO
    isplitl [HtS]; · iexact HtS
    isplitr; · iexact HrS
    isplitl [HtR]; · iexact HtR
    iexact HrR
  iintro ⟨HcS, HO⟩
  rw [wp_ret]
  imodintro
  isplitl [HaS HaR HcS HcR]
  · unfold flying
    isplitl [HaS]; · iexact HaS
    isplitl [HaR]; · iexact HaR
    isplitl [HcS]; · iexact HcS
    iexact HcR
  isplitr; · iexact Hctx
  iexists W; iexact HO

/-- Adding the tile that arrived. -/
def absorb (w : Fin 3) (t : Fin 12) : Code F := do
  let mine ← Prog.lift (.load workM (tileR t).toLoadRect (View.loadsAt_vmem h_S128x256))
  let theirs ← Prog.lift (.load recvM (slotR w t).toLoadRect (View.loadsAt_vmem h_S1x128x256))
  storeTile t (addTile mine theirs)

theorem absorb_step (c : Dev nD) (w : Fin 3) (t : Fin 12) (X Y : FVec F S128x256 .bf16) :
    iprop(workAt c t X ∗ slotAt c w t Y) ⊢ runs c (absorb w t) (fun _ => iprop(workAt c t (plus X Y) ∗ slotAny c w t)) := by
  have hadd (f : Buf (Elt F) ((workT t).view.loc (c : Thread nD τ))) (g : Buf (Elt F) ((slotT w t).view.loc (c : Thread nD τ)))
      (hf : (workT t).view.read (Elt F) f = X) (hg : (slotT w t).view.read (Elt F) g = Y) :
      addTile ((workM.access (tileR t)).read (Elt F) f) ((recvM.access (slotR w t)).read (Elt F) g) = plus X Y := by
    subst hf hg; rfl
  unfold workAt slotAt owns
  simp only [absorb, Prog.lift, Prog.bind_op, Prog.bind_ret]
  iintro ⟨⟨%f, %hf, Hw⟩, ⟨%g, %hg, Hs⟩⟩
  iapply (wp_load_rect 𝒱₀ (c : Thread nD τ) none Set.univ (m := workM) (r := tileR t) (f := f) (S := (workT t).view.set) (Finset.Subset.refl _)) $$ Hw
  iintro Hw
  iapply (wp_load_rect 𝒱₀ (c : Thread nD τ) none Set.univ (m := recvM) (r := slotR w t) (f := g) (S := (slotT w t).view.set)
    (by rw [View.set_reshape])) $$ Hs
  iintro Hs
  rw [hadd f g hf hg]
  refine (show _ ⊢ iprop(runs c (storeTile t (plus X Y)) (fun _ => workAt c t (plus X Y)) ∗ slotAny c w t) from ?_).trans (wp_frame_r _ _ _)
  iintro ⟨Hw, Hs⟩
  isplitl [Hw]
  · iapply (storeTile_step c t _)
    unfold workAny; iexists f; iexact Hw
  · unfold slotAny; iexists g; iexact Hs

/-- Waiting on one of the device's own semaphores, with everything still owed placed after it: its payload, and the
    semaphore closed. -/
theorem wait_own (c : Dev nD) (o : Own) (n : ℕ) (hn : lv (ownCell c o) () ≤ 1 + n)
    {eff : TpuEff nD τ sig (Elt F) Λ₀ .tc PUnit}
    (hw : ∀ Kt : PUnit → sProp 𝕄, wpE (defs₀ (F := F)) 𝒱₀ (c : Thread nD τ) none Set.univ eff Kt = waitSpec (c : Thread nD τ) Set.univ (ownS o) (ownN o) Kt)
    {k : PUnit → Code F} {Q : PUnit → sProp 𝕄} :
    iprop(cred (tallyAt (ownCell c o) () (ownN o)) ∗ atPos ER (ownCell c o) 0 ∅ 0 ∗ common m K c n)
      ⊢ iprop(((ownPay m c o ∗ semVal (ownCell c o) 0 ∗ common m K c n) -∗ runs c (k ⟨⟩) Q) -∗ runs c (.op eff k) Q) := by
  unfold common
  iintro ⟨Hc, Ha, #Hctx, ⟨%W, HO⟩⟩ Hk
  iapply (Rounds.wp_wait_rest_token 𝒱₀ ER (sched m) (c : Thread nD τ) none (κ := K (ownCell c o))
      hw (Set.mem_univ _) () (O := owed c n) (W := W) (R := 0) (m := 0) (T := ∅)
      ((Nat.zero_add _).trans (expect_own m c o).symm)) $$ [Hc HO Ha]
  · isplitr; · iapply (ctx_own c o); iexact Hctx
    isplitl [Hc]; · iexact Hc
    isplitl [HO]; · iexact HO
    isplitr
    · iapply (mayWait c (ownS o) n hn)
      iapply (ctx_levels (m := m) (K := K)); iexact Hctx
    iexact Ha
  iintro ⟨HO, Ha, -, Hpay⟩
  ihave Hp := (Entails.of_eq (rest_own m c o)) $$ Hpay
  imod (close_own (m := m) (K := K) c o) $$ [Ha] with Hz
  · isplitr; · iexact Hctx
    iexact Ha
  iapply Hk
  isplitl [Hp]; · iexact Hp
  isplitl [Hz]; · iexact Hz
  isplitr; · iexact Hctx
  iexists _; iexact HO

theorem wait_recv (c : Dev nD) (w : Fin 3) (t : Fin 12) (Kt : PUnit → sProp 𝕄) :
    wpE (defs₀ (F := F)) 𝒱₀ (c : Thread nD τ) none Set.univ (.waitDma2 (recvS w t) (workT t) (slotT w t) (workT_words t) (slotT_words w t)) Kt
      = waitSpec (c : Thread nD τ) Set.univ (ownS (recvO w t)) (ownN (recvO w t)) Kt :=
  (wpE_waitDma2_eq 𝒱₀ (c : Thread nD τ) none Set.univ Kt).trans (by rw [slotT_credit])

theorem wait_send (c : Dev nD) (w : Fin 3) (t : Fin 12) (Kt : PUnit → sProp 𝕄) :
    wpE (defs₀ (F := F)) 𝒱₀ (c : Thread nD τ) none Set.univ (.waitDma2 (sendS w t) (slotT w t) (workT t) (slotT_words w t) (workT_words t)) Kt
      = waitSpec (c : Thread nD τ) Set.univ (ownS (sendO w t)) (ownN (sendO w t)) Kt :=
  (wpE_waitDma2_eq 𝒱₀ (c : Thread nD τ) none Set.univ Kt).trans (by rw [workT_credit])

/-- Waiting for a tile and adding the one that arrived. -/
theorem finish_step (c : Dev nD) (w : Fin 3) (t : Fin 12) (n : ℕ) (hn : 12 * w.val + t.val + 1 ≤ n) :
    iprop(flying c w t ∗ common m K c n)
      ⊢ runs c (finish w t) (fun _ => iprop((workAt c t (tileAt m (w.val + 1) c t) ∗ over c w t) ∗ common m K c n)) := by
  unfold flying
  show _ ⊢ runs c (.op (.waitDma2 (recvS w t) (workT t) (slotT w t) (workT_words t) (slotT_words w t)) fun _ =>
    .op (.waitDma2 (sendS w t) (slotT w t) (workT t) (slotT_words w t) (workT_words t)) fun _ => absorb w t) _
  iintro ⟨⟨HaS, HaR, HcS, HcR⟩, Hcom⟩
  iapply (wait_own m K c (recvO w t) n ((lv_recv c w t).trans_le (by omega)) (wait_recv c w t)) $$ [HaR HcR Hcom]
  · isplitl [HcR]; · iexact HcR
    isplitl [HaR]; · iexact HaR
    iexact Hcom
  iintro ⟨Hs, HzR, Hcom⟩
  iapply (wait_own m K c (sendO w t) n ((lv_send c w t).trans_le (by omega)) (wait_send c w t)) $$ [HaS HcS Hcom]
  · isplitl [HcS]; · iexact HcS
    isplitl [HaS]; · iexact HaS
    iexact Hcom
  iintro ⟨Hw, HzS, Hcom⟩
  ihave Hw := (Entails.of_eq (show ownPay m c (sendO w t) = workAt c t (tileAt m w.val c t) from rfl)) $$ Hw
  ihave Hs := (Entails.of_eq (show ownPay m c (recvO w t) = slotAt c w t (tileAt m w.val (peer (dir w t) c) t) from rfl)) $$ Hs
  iapply (runs_then c (absorb_step c w t (tileAt m w.val c t) (tileAt m w.val (peer (dir w t) c) t))) $$ [Hs Hw]
  · isplitl [Hw]; · iexact Hw
    iexact Hs
  iintro ⟨Hw, Hs⟩
  isplitr [Hcom]
  · isplitl [Hw]; · iexact Hw
    unfold over
    isplitl [Hs]; · iexact Hs
    isplitl [HzS]; · iexact HzS
    iexact HzR
  · iexact Hcom

end Cert.KernelIdeal.Mesh

end
-- ==== Proof.Mesh.Cut.lean ====
/- The working array and the result as twelve tiles, the arrival buffer as thirty-six slots: a buffer held whole is its
   pieces held one by one, and back. -/
module

public import proofs.«01_k».proof.Proof.Mesh.Steps
public import Idealize.ShloMosaic.Lib.Ring.WriteBehind
public import Idealize.ShloMosaic.Lib.Ring.FamCut

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles -/

theorem tiles_disjoint (t t' : Fin 12) (h : t ≠ t') : Disjoint (tileR t).set (tileR t').set :=
  Ring.boxes_disjoint (s := S512x768) S128x256.size (fun t : Fin 12 => ![128 * (t.val / 3), 256 * (t.val % 3)]) inb_tile
    (fun t => ![t.val / 3, t.val % 3])
    (fun t a => by match a with | 0 => exact Nat.mul_comm _ _ | 1 => exact Nat.mul_comm _ _)
    (fun κ => ⟨(3 * κ 0 + κ 1) % 12, Nat.mod_lt _ (by decide)⟩) (by decide) t t' h

theorem slots_disjoint (e e' : Ex) (h : e ≠ e') : Disjoint (slotR e.1 e.2).set (slotR e'.1 e'.2).set :=
  Ring.boxes_disjoint (s := S3x512x768) S1x128x256.size (fun e : Ex => ![e.1.val, 128 * (e.2.val / 3), 256 * (e.2.val % 3)])
    (fun e => inb_slot e.1 e.2)
    (fun e => ![e.1.val, e.2.val / 3, e.2.val % 3])
    (fun e a => by match a with | 0 => exact (Nat.mul_one _).symm | 1 => exact Nat.mul_comm _ _ | 2 => exact Nat.mul_comm _ _)
    (fun κ => (⟨κ 0 % 3, Nat.mod_lt _ (by decide)⟩, ⟨(3 * κ 1 + κ 2) % 12, Nat.mod_lt _ (by decide)⟩)) (by decide) e e' h

/-- The tile an element lies in. -/
abbrev tileNo (i : S512x768.Idx) : Fin 12 :=
  ⟨3 * ((i 0).val / 128) + (i 1).val / 256, by have : (i 0).val < 512 := (i 0).isLt; have : (i 1).val < 768 := (i 1).isLt; omega⟩
/-- Its position inside the tile. -/
abbrev tileIdx (i : S512x768.Idx) : S128x256.Idx :=
  Fin.cons ⟨(i 0).val % 128, Nat.mod_lt _ (by decide)⟩ (Fin.cons ⟨(i 1).val % 256, Nat.mod_lt _ (by decide)⟩ fun a => a.elim0)

theorem tileR_emb (i : S512x768.Idx) : (tileR (tileNo i)).emb (tileIdx i) = i := by
  funext a
  apply Fin.ext
  have h0 : (i 0).val < 512 := (i 0).isLt
  have h1 : (i 1).val < 768 := (i 1).isLt
  match a with
  | 0 => show 128 * ((3 * ((i 0).val / 128) + (i 1).val / 256) / 3) + 1 * ((i 0).val % 128) = (i 0).val; omega
  | 1 => show 256 * ((3 * ((i 0).val / 128) + (i 1).val / 256) % 3) + 1 * ((i 1).val % 256) = (i 1).val; omega

theorem tileNo_emb (t : Fin 12) (j : S128x256.Idx) : tileNo ((tileR t).emb j) = t := by
  apply Fin.ext
  have h0 : (j 0).val < 128 := (j 0).isLt
  have h1 : (j 1).val < 256 := (j 1).isLt
  show 3 * ((128 * (t.val / 3) + 1 * (j 0).val) / 128) + (256 * (t.val % 3) + 1 * (j 1).val) / 256 = t.val
  omega

theorem tileIdx_emb (t : Fin 12) (j : S128x256.Idx) : tileIdx ((tileR t).emb j) = j := by
  funext a
  apply Fin.ext
  have h0 : (j 0).val < 128 := (j 0).isLt
  have h1 : (j 1).val < 256 := (j 1).isLt
  match a with
  | 0 => show (128 * (t.val / 3) + 1 * (j 0).val) % 128 = (j 0).val; omega
  | 1 => show (256 * (t.val % 3) + 1 * (j 1).val) % 256 = (j 1).val; omega

theorem tiles_cover : (Finset.univ : Finset (Fin 12)).biUnion (fun t => (tileR t).set) = Finset.univ := by
  ext i
  simp only [Finset.mem_biUnion, Finset.mem_univ, true_and, iff_true]
  exact ⟨tileNo i, by
    have h := (tileR (tileNo i)).toLoadRect.idx_mem (tileIdx i)
    rwa [show (tileR (tileNo i)).toLoadRect.idx (tileIdx i) = i from tileR_emb i] at h⟩

/-! ## The buffers -/

theorem held_set (c : Dev nD) (b : Ref sig .tc) (f : b.ty.Contents (Elt F)) :
    ((Memref.whole b).view.loc (c : Thread nD τ) ↦[(Memref.whole b).view.set]{fullShare} f : sProp 𝕄) = held c b f := by
  rw [show (Memref.whole b).view.set = Finset.univ from View.set_whole _]

/-- A device's result: on each tile, that tile after the three rounds. -/
def outOf (m : (ℓ : Loc nD τ sig) → Buf (Elt F) ℓ) (c : Dev nD) : Vec F S512x768 .f32 := fun i =>
  outTile (tileAt m 3 c (tileNo i)) (tileIdx i)

theorem outOf_emb (m : (ℓ : Loc nD τ sig) → Buf (Elt F) ℓ) (c : Dev nD) (t : Fin 12) :
    (fun j => outOf m c ((tileR t).emb j)) = outTile (tileAt m 3 c t) := by
  funext j
  unfold outOf
  rw [tileNo_emb, tileIdx_emb]

/-- Written tile by tile, the result's buffer holds the result. -/
theorem out_join (m : (ℓ : Loc nD τ sig) → Buf (Elt F) ℓ) (c : Dev nD) :
    (bigSep Finset.univ fun t => outAt c t (outTile (tileAt m 3 c t)) : sProp 𝕄) ⊢ held c cc0_stg0_0 (outOf m c) := by
  have h := owns_of_rects (Ix := Unit) (Val := Elt F) (Name := ℕ) (U := UU) (Lvl := ℕ) (c : Thread nD τ) outM fullShare tileR (fun _ _ => rfl)
    tiles_disjoint tiles_cover (outOf m c)
  refine (Entails.of_eq (bigSep_congr fun t _ => ?_)).trans (h.trans ?_)
  · rw [outOf_emb]
  · unfold owns
    iintro ⟨%g, %hg, H⟩
    rw [show g = outOf m c from hg]
    rw [← held_set]
    iexact H

theorem out_cut (c : Dev nD) (f : Vec F S512x768 .f32) :
    held c cc0_stg0_0 f ⊢ (bigSep Finset.univ fun t => outAny c t : sProp 𝕄) := by
  rw [← held_set]
  refine (Entails.of_eq (pointsTo_rects (c : Thread nD τ) outM fullShare tileR (fun _ _ => rfl) tiles_disjoint tiles_cover f)).trans
    (bigSep_mono fun t _ => ?_)
  exact (show (outAt c t _ : sProp 𝕄) ⊢ outAny c t from by
    unfold outAt owns outAny; iintro ⟨%g, -, H⟩; iexists g; iexact H)

/-- A scratch buffer at contents not chosen. -/
abbrev anyOf (c : Dev nD) (b : Ref sig .tc) : sProp 𝕄 := iprop(∃ f, held c b f)

/-- What the tiles leave of the working array, and the slots of the arrival buffer: nothing, carried as it comes. -/
def workRest (c : Dev nD) : sProp 𝕄 :=
  iprop(∃ f : Buf (Elt F) (workM.view.loc (c : Thread nD τ)), workM.view.loc (c : Thread nD τ) ↦[Ring.restOf fun t => (workT t).view.set]{fullShare} f)
def recvRest (c : Dev nD) : sProp 𝕄 :=
  iprop(∃ f : Buf (Elt F) (recvM.view.loc (c : Thread nD τ)), recvM.view.loc (c : Thread nD τ) ↦[Ring.restOf fun e : Ex => (slotT e.1 e.2).view.set]{fullShare} f)

theorem work_sets (t t' : Fin 12) (h : t ≠ t') : Disjoint (workT t).view.set (workT t').view.set := by
  rw [show (workT t).view.set = _ from View.set_slice _ _, show (workT t').view.set = _ from View.set_slice _ _]
  exact (Finset.disjoint_map _).mpr (tiles_disjoint t t' h)

theorem slot_sets (e e' : Ex) (h : e ≠ e') : Disjoint (slotT e.1 e.2).view.set (slotT e'.1 e'.2).view.set := by
  rw [show (slotT e.1 e.2).view.set = _ from View.set_reshape _ _, show (slotT e'.1 e'.2).view.set = _ from View.set_reshape _ _,
    show (recvM.slice (slotR e.1 e.2) (fun _ => rfl)).view.set = _ from View.set_slice _ _,
    show (recvM.slice (slotR e'.1 e'.2) (fun _ => rfl)).view.set = _ from View.set_slice _ _]
  exact (Finset.disjoint_map _).mpr (slots_disjoint e e' h)

theorem work_cut (c : Dev nD) : (anyOf c cc0_scratch6 : sProp 𝕄) ⊢ iprop((bigSep Finset.univ fun t => workAny c t) ∗ workRest c) := by
  unfold workRest workAny
  exact Ring.fam_split_ex (Ix := Unit) (Val := Elt F) (Name := ℕ) (U := UU) (Lvl := ℕ) (ℓ := workM.view.loc (c : Thread nD τ)) (B := Fin 12)
    (fun t => (workT t).view.set) work_sets (q := fullShare)
theorem work_join (c : Dev nD) : iprop((bigSep Finset.univ fun t => workAny c t) ∗ workRest c) ⊢ (anyOf c cc0_scratch6 : sProp 𝕄) := by
  unfold workRest
  iintro ⟨H, ⟨%f, Hr⟩⟩
  iapply (Ring.fam_join (fun t => (workT t).view.set) work_sets f)
  isplitl [H]
  · iexact H
  · iexists f; iexact Hr

theorem recv_cut (c : Dev nD) : (anyOf c cc0_scratch7 : sProp 𝕄) ⊢ iprop((bigSep Finset.univ fun e : Ex => slotAny c e.1 e.2) ∗ recvRest c) := by
  unfold recvRest slotAny
  exact Ring.fam_split_ex (Ix := Unit) (Val := Elt F) (Name := ℕ) (U := UU) (Lvl := ℕ) (ℓ := recvM.view.loc (c : Thread nD τ)) (B := Ex)
    (fun e => (slotT e.1 e.2).view.set) slot_sets (q := fullShare)
theorem recv_join (c : Dev nD) : iprop((bigSep Finset.univ fun e : Ex => slotAny c e.1 e.2) ∗ recvRest c) ⊢ (anyOf c cc0_scratch7 : sProp 𝕄) := by
  unfold recvRest
  iintro ⟨H, ⟨%f, Hr⟩⟩
  iapply (Ring.fam_join (fun e : Ex => (slotT e.1 e.2).view.set) slot_sets f)
  isplitl [H]
  · iexact H
  · iexists f; iexact Hr

end Cert.KernelIdeal.Mesh

end
-- ==== Proof.Mesh.Whole.lean ====
/- The body from end to end: the arguments brought in, the meeting, the attention and its tiles, the three rounds, the
   result. -/
module

public import proofs.«01_k».proof.Proof.Mesh.Cut

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## The arguments' copies -/

/-- What a device needs to bring an argument in, besides the two buffers. -/
def copyKit (c : Dev nD) (k : Fin 5) : sProp 𝕄 :=
  iprop(atPos ER (copyCell c k) 0 ∅ 0 ∗ reached ER (copyCell c k) 0 ∗ dutyTok ER (copyCell c k) 0 0)

/-- A copy under way. -/
def copying (c : Dev nD) (k : Fin 5) : sProp 𝕄 :=
  iprop(cred (tallyAt (copyCell c k) () (copyN k)) ∗ atPos ER (copyCell c k) 0 ∅ 0)

/-- Starting a copy. -/
theorem copy_start {s : Shape} {e : EltTy} {sp sp' : Space} (c : Dev nD) (k : Fin 5) (src : Memref sig .tc sp s e) (dst : Memref sig .tc sp' s e)
    {hsrc : src.view.WordExact} {hdst : dst.view.WordExact} {hsem : DmaTarget.Typed (nD := nD) (τ := τ) (p := .tc) sp (.dma (copyS k)) (.here dst)}
    (fs : Buf (Elt F) (src.view.loc (c : Thread nD τ))) (fd : Buf (Elt F) (dst.view.loc (c : Thread nD τ)))
    (hN : dst.view.amount (.dma (copyS k)) = copyN k)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ (copyPay m c k : sProp 𝕄))
    {n : PUnit → Code F} {Q : PUnit → sProp 𝕄} :
    iprop(ctx m K ∗ (src.view.loc (c : Thread nD τ) ↦[src.view.set]{fullShare} fs) ∗ (dst.view.loc (c : Thread nD τ) ↦[dst.view.set]{fullShare} fd) ∗ copyKit c k)
      ⊢ iprop((copying c k -∗ runs c (n ⟨⟩) Q) -∗ runs c (.op (.enqueueDma src (.here dst) (.dma (copyS k)) hsrc hdst hsem) n) Q) := by
  unfold copyKit
  iintro ⟨#Hctx, Hs, Hd, Ha, #Hr, Ht⟩ Hk
  iapply (Rounds.wp_copy_pointsTo 𝒱₀ ER (sched m) (c : Thread nD τ) none (src := src) (dst := dst) (sem := .dma (copyS k)) (q := fullShare)
      (fs := fs) (fd := fd) (r := 0) (d := 0) (κ := K (copyCell c k))
      (by rw [duties_own m c (copyO k)]; exact Finset.mem_singleton_self _) () (copyN k) hN (amount_own m c (copyO k) 0)
      (by rw [payload_own m c (copyO k) 0]; exact hpay)) $$ [Hs Hd Ht]
  · isplitr; · iapply (ctx_own c (copyO k)); iexact Hctx
    isplitl [Hs]; · iexact Hs
    isplitl [Hd]; · iexact Hd
    isplitl [Ht]; · iexact Ht
    iexact Hr
  iintro Hc
  iapply Hk
  unfold copying
  isplitl [Hc]; · iexact Hc
  iexact Ha

/-- Waiting for a copy. -/
theorem copy_wait {s : Shape} {e : EltTy} {sp sp' : Space} (c : Dev nD) (k : Fin 5) (n : ℕ) (src : Memref sig .tc sp s e) (dst : Memref sig .tc sp' s e)
    {hsrc : src.view.WordExact} {hdst : dst.view.WordExact} (hN : dst.view.dmaCredit = copyN k)
    {p : PUnit → Code F} {Q : PUnit → sProp 𝕄} :
    iprop(copying c k ∗ common m K c n)
      ⊢ iprop(((copyPay m c k ∗ semVal (copyCell c k) 0 ∗ common m K c n) -∗ runs c (p ⟨⟩) Q)
          -∗ runs c (Prog.lift (.waitDma2 (copyS k) src dst hsrc hdst) >>= p) Q) := by
  have hw : ∀ Kt : PUnit → sProp 𝕄, wpE (defs₀ (F := F)) 𝒱₀ (c : Thread nD τ) none Set.univ (.waitDma2 (copyS k) src dst hsrc hdst) Kt
      = waitSpec (c : Thread nD τ) Set.univ (ownS (copyO k)) (ownN (copyO k)) Kt :=
    fun Kt => (wpE_waitDma2_eq 𝒱₀ (c : Thread nD τ) none Set.univ Kt).trans (by rw [hN])
  refine BIBase.Entails.trans ?_ (wait_own m K c (copyO k) n ((lv_copy c k).trans_le (Nat.zero_le _)) hw)
  unfold copying
  iintro ⟨⟨Hc, Ha⟩, H⟩
  isplitl [Hc]; · iexact Hc
  isplitl [Ha]; · iexact Ha
  iexact H

/-- Loading a whole buffer. -/
theorem load_at {s : Shape} {e : EltTy} (c : Dev nD) {M : Memref sig .tc .vmem s e} {r : LoadRect s} {hl : M.view.LoadsAt r}
    (f : Buf (Elt F) (M.view.loc (c : Thread nD τ))) (X : r.shape.Idx → Elt F e) (h : M.view.readAt (Elt F) r f = X)
    {k : (r.shape.Idx → Elt F e) → Code F} {Q : PUnit → sProp 𝕄} :
    (M.view.loc (c : Thread nD τ) ↦{fullShare} f)
      ⊢ iprop(((M.view.loc (c : Thread nD τ) ↦{fullShare} f) -∗ runs c (k X) Q) -∗ runs c (Prog.lift (.load M r hl) >>= k) Q) := by
  subst h
  exact wp_load 𝒱₀ (c : Thread nD τ) none Set.univ (S := Finset.univ) (Finset.subset_univ _)

/-- A step, then the rest. -/
theorem runs_seq (c : Dev nD) {p : Code F} {P R : sProp 𝕄} (h : P ⊢ runs c p (fun _ => R)) {k : PUnit → Code F} {Q : PUnit → sProp 𝕄} :
    P ⊢ iprop((R -∗ runs c (k ⟨⟩) Q) -∗ runs c (p >>= k) Q) := by
  rw [show runs c (p >>= k) Q = runs c p (fun a => runs c (k a) Q) from wp_bind _ _ _ _ _ _]
  exact runs_then c h (Q := fun a => runs c (k a) Q)

/-! ## The meeting -/

/-- What a device has in hand besides its buffers, its semaphores open. -/
def kit (c : Dev nD) : sProp 𝕄 :=
  iprop((atPos ER (barCell c) 0 ∅ 0 ∗ cred (tallyAt (barCell c) () 3) ∗ bigSep Finset.univ fun k : Fin 3 => dutyTok ER (barCell (peer k c)) 0 k)
    ∗ (bigSep Finset.univ fun k => copyKit c k)
    ∗ (bigSep Finset.univ fun e : Ex => reached ER (recvCell c e.1 e.2) 0)
    ∗ bigSep Finset.univ fun e : Ex => armed c e.1 e.2)

/-- A tile's rounds, indexed by direction. -/
def sorted : Ex ≃ Ex where
  toFun e := (roundOf e.1 e.2, e.2)
  invFun e := (dir e.1 e.2, e.2)
  left_inv := by decide
  right_inv := by decide

/-- A family over rounds and tiles, gathered by direction. -/
theorem by_direction (Φ : Fin 3 → Fin 12 → sProp 𝕄) :
    (bigSep Finset.univ fun e : Ex => Φ e.1 e.2) = bigSep Finset.univ fun k : Fin 3 => bigSep Finset.univ fun t => Φ (roundOf k t) t := by
  rw [bigSep_univ_equiv sorted]
  exact bigSep_univ_prod (fun e : Ex => Φ (roundOf e.1 e.2) e.2)

theorem sep_three (Φ : Fin 3 → sProp 𝕄) : bigSep Finset.univ Φ = iprop(Φ 0 ∗ Φ 1 ∗ Φ 2) := by
  rw [show (Finset.univ : Finset (Fin 3)) = insert 0 (insert 1 {2}) from rfl, bigSep_add (by decide), bigSep_add (by decide), bigSep_singleton]

theorem sep_five (Φ : Fin 5 → sProp 𝕄) : bigSep Finset.univ Φ = iprop(Φ 0 ∗ Φ 1 ∗ Φ 2 ∗ Φ 3 ∗ Φ 4) := by
  rw [show (Finset.univ : Finset (Fin 5)) = insert 0 (insert 1 (insert 2 (insert 3 {4}))) from rfl, bigSep_add (by decide), bigSep_add (by decide),
    bigSep_add (by decide), bigSep_add (by decide), bigSep_singleton]

theorem sep_both {I : Type} (s : Finset I) (Φ Ψ : I → sProp 𝕄) :
    bigSep s (fun i => iprop(Φ i ∗ Ψ i)) = iprop(bigSep s Φ ∗ bigSep s Ψ) := bigSep_sep s Φ Ψ

theorem by_round (Φ : Fin 3 → Fin 12 → sProp 𝕄) :
    (bigSep Finset.univ fun e : Ex => Φ e.1 e.2)
      = iprop((bigSep Finset.univ fun t => Φ 0 t) ∗ (bigSep Finset.univ fun t => Φ 1 t) ∗ bigSep Finset.univ fun t => Φ 2 t) := by
  rw [bigSep_univ_prod (fun e : Ex => Φ e.1 e.2), sep_three]

/-- What a device pays at the meeting: its slots, each to the device that will send into it. -/
theorem pays (c : Dev nD) :
    iprop((bigSep Finset.univ fun e : Ex => slotAny (F := F) c e.1 e.2) ∗ bigSep Finset.univ fun e : Ex => reached ER (recvCell c e.1 e.2) 0)
      ⊢ iprop(barPay (F := F) (peer 0 c) 0 ∗ barPay (peer 1 c) 1 ∗ barPay (peer 2 c) 2) := by
  have h : ∀ k : Fin 3, (bigSep Finset.univ fun t : Fin 12 => landing (F := F) c (roundOf k t) t) = barPay (peer k c) k := fun k => by
    unfold barPay; rw [peer_peer]
  rw [← sep_both]
  refine (Entails.of_eq (by_direction fun w t => landing (F := F) c w t)).trans ?_
  rw [sep_three, h, h, h]

/-- What it is paid: every slot it will send into. -/
theorem paid (c : Dev nD) :
    (bigSep Finset.univ fun k : Fin 3 => barPay (F := F) c k) = bigSep Finset.univ fun e : Ex => landing (F := F) (peer (dir e.1 e.2) c) e.1 e.2 := by
  rw [by_direction fun w t => landing (F := F) (peer (dir w t) c) w t]
  refine bigSep_congr fun k _ => ?_
  unfold barPay
  exact bigSep_congr fun t _ => by rw [dir_roundOf]

/-- Raising the semaphore of the device met in direction `k`. -/
theorem meet (c : Dev nD) (k : Fin 3) (O : CellTallies nD τ sig Unit) {W : Waits sig Unit}
    {p : PUnit → Code F} {Q : PUnit → sProp 𝕄} :
    iprop(ctx m K ∗ owes (c : Thread nD τ) (O + tallyAt (barCell (peer k c)) () 1) W ∗ dutyTok ER (barCell (peer k c)) 0 k ∗ barPay (peer k c) k)
      ⊢ iprop((owes (c : Thread nD τ) O W -∗ runs c (p ⟨⟩) Q) -∗ runs c (semSignalWord (peer k c) barS 1#32 >>= p) Q) := by
  simp only [semSignalWord, Prog.lift, Prog.bind_op, Prog.bind_ret]
  iintro ⟨#Hctx, HO, Ht, Hp⟩
  iapply (Rounds.wp_signal 𝒱₀ ER (sched m) (c : Thread nD τ) none (dst := (peer k c : Thread nD τ)) (sem := barS) (r := 0) (d := k) (κ := K (barCell (peer k c)))
      (by rw [duties_bar]; exact Finset.mem_univ _) (amount_bar m (peer k c) k) () O rfl)
  isplitr; · iapply (ctx_bar (peer k c)); iexact Hctx
  isplitl [HO]; · iexact HO
  isplitl [Ht]; · iexact Ht
  isplitl [Hp]; · rw [payload_bar]; iexact Hp
  iapply (ctx_reached (peer k c)); iexact Hctx

/-- Waiting for the three devices it meets. -/
theorem meeting (c : Dev nD) {p : PUnit → Code F} {Q : PUnit → sProp 𝕄} :
    iprop(cred (tallyAt (barCell c) () 3) ∗ atPos ER (barCell c) 0 ∅ 0 ∗ common m K c 0)
      ⊢ iprop((((bigSep Finset.univ fun e : Ex => landing (F := F) (peer (dir e.1 e.2) c) e.1 e.2) ∗ semVal (barCell c) 0 ∗ common m K c 0) -∗ runs c (p ⟨⟩) Q)
          -∗ runs c (semWaitWord barS 3#32 >>= p) Q) := by
  unfold common
  simp only [semWaitWord, Prog.lift, Prog.bind_op, Prog.bind_ret]
  iintro ⟨Hc, Ha, #Hctx, ⟨%W, HO⟩⟩ Hk
  iapply (Rounds.wp_wait_rest_token 𝒱₀ ER (sched m) (c : Thread nD τ) none (κ := K (barCell c))
      (wpE_semWait_eq 𝒱₀ (c : Thread nD τ) none Set.univ) (Set.mem_univ _) () (O := owed c 0) (W := W) (R := 0) (m := 0) (T := ∅)
      ((Nat.zero_add 3).trans (expect_bar m c).symm)) $$ [Hc HO Ha]
  · isplitr; · iapply (ctx_bar c); iexact Hctx
    isplitl [Hc]; · iexact Hc
    isplitl [HO]; · iexact HO
    isplitr
    · iapply (mayWait c (.reg barS) 0 ((lv_bar c).trans_le (Nat.le_refl _)))
      iapply (ctx_levels (m := m) (K := K)); iexact Hctx
    iexact Ha
  iintro ⟨HO, Ha, -, Hpay⟩
  ihave Hp := (Entails.of_eq ((rest_bar m c).trans (paid c))) $$ Hpay
  imod (close_bar (m := m) (K := K) c) $$ [Ha] with Hz
  · isplitr; · iexact Hctx
    iexact Ha
  iapply Hk
  isplitl [Hp]; · iexact Hp
  isplitl [Hz]; · iexact Hz
  isplitr; · iexact Hctx
  iexists _; iexact HO

end Cert.KernelIdeal.Mesh

end
-- ==== Proof.Mesh.Rest.lean ====
/- The body once the arguments' projections are in: the attention, its tiles, the meeting, the rounds, the result. -/
module

public import proofs.«01_k».proof.Proof.Mesh.Whole

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- The tiles of the first batch after the first, and those of the second. -/
abbrev early : List (Fin 12) := [1, 2, 3, 4, 5]
abbrev late : List (Fin 12) := [6, 7, 8, 9, 10, 11]

theorem tiles_univ : (tiles.toFinset : Finset (Fin 12)) = Finset.univ := by decide

theorem cut_tiles (Φ : Fin 12 → sProp 𝕄) :
    bigSep Finset.univ Φ = iprop(Φ 0 ∗ bigSep early.toFinset Φ ∗ bigSep late.toFinset Φ) := by
  rw [show (Finset.univ : Finset (Fin 12)) = insert 0 (early.toFinset ∪ late.toFinset) from by decide, bigSep_add (by decide)]
  exact congrArg (fun P => iprop(Φ 0 ∗ P)) (bigSep_union (by decide))

/-- Tiles computed and sent, one after another. -/
theorem made (c : Dev nD) (n : ℕ) (l : List (Fin 12)) (a : ℕ) (hn : ∀ t ∈ l, 8 * (t.val / 6) + 8 ≤ n) (hd : l.Nodup)
    (hl : l.map Fin.val = List.range' a l.length) :
    iprop(((bigSep l.toFinset fun t => workAny c t) ∗ bigSep l.toFinset fun t => ready c 0 t) ∗ attnSt m c n ∗ common m K c (12 * (0 : Fin 3).val + a))
      ⊢ runs c (Pipeline.chain (l.map fun t => makeTile (argO m c) t >>= fun _ => start c 0 t))
          (fun _ => iprop((bigSep l.toFinset fun t => flying c 0 t) ∗ attnSt m c n ∗ common m K c (12 * (0 : Fin 3).val + (a + l.length)))) := by
  rw [← sep_both]
  refine runs_chain c _ (fun t => iprop(workAny c t ∗ ready c 0 t)) (fun t => flying c 0 t)
    (fun a => iprop(attnSt m c n ∗ common m K c (12 * (0 : Fin 3).val + a))) l a (fun t ht => ?_) hd hl
  iintro ⟨⟨Hw, Hr⟩, HA, Hcom⟩
  iapply (runs_seq c (makeTile_step m c n t (hn t ht))) $$ [Hw HA]
  · isplitl [Hw]; · iexact Hw
    iexact HA
  iintro ⟨Hw, HA⟩
  iapply (runs_then c (start_step m K c 0 t)) $$ [Hw Hr Hcom]
  · isplitr [Hcom]
    · isplitl [Hw]; · iexact Hw
      iexact Hr
    · iexact Hcom
  iintro ⟨Hf, Hcom⟩
  isplitl [Hf]; · iexact Hf
  isplitl [HA]; · iexact HA
  iexact Hcom

/-- One round's exchanges finished and the next round's begun. -/
theorem round (c : Dev nD) (w w' : Fin 3) (hw : w'.val = w.val + 1) :
    iprop(((bigSep Finset.univ fun t => flying c w t) ∗ bigSep Finset.univ fun t => ready c w' t) ∗ common m K c (12 * w'.val + 0))
      ⊢ runs c (Pipeline.chain (tiles.map fun t => finish w t >>= fun _ => start c w' t))
          (fun _ => iprop(((bigSep Finset.univ fun t => over c w t) ∗ bigSep Finset.univ fun t => flying c w' t) ∗ common m K c (12 * w'.val + 12))) := by
  rw [← sep_both, ← sep_both, ← tiles_univ]
  refine runs_chain c _ (fun t => iprop(flying c w t ∗ ready c w' t)) (fun t => iprop(over c w t ∗ flying c w' t))
    (fun a => common m K c (12 * w'.val + a)) tiles 0 (fun t _ => ?_) (by decide) rfl
  iintro ⟨⟨Hf, Hr⟩, Hcom⟩
  iapply (runs_seq c (finish_step m K c w t (12 * w'.val + t.val) (by omega))) $$ [Hf Hcom]
  · isplitl [Hf]; · iexact Hf
    iexact Hcom
  iintro ⟨⟨Hw, Hov⟩, Hcom⟩
  rw [← hw]
  iapply (runs_then c (start_step m K c w' t)) $$ [Hw Hr Hcom]
  · isplitr [Hcom]
    · isplitl [Hw]; · iexact Hw
      iexact Hr
    · iexact Hcom
  iintro ⟨Hf, Hcom⟩
  isplitr [Hcom]
  · isplitl [Hov]; · iexact Hov
    iexact Hf
  · iexact Hcom

/-- The last round finished and the result written. -/
theorem last (c : Dev nD) :
    iprop(((bigSep Finset.univ fun t => flying c 2 t) ∗ bigSep Finset.univ fun t => outAny c t) ∗ common m K c 36)
      ⊢ runs c (Pipeline.chain (tiles.map fun t => finish 2 t >>= fun _ => writeOut t))
          (fun _ => iprop(((bigSep Finset.univ fun t => over c 2 t) ∗ (bigSep Finset.univ fun t => workAny c t)
            ∗ bigSep Finset.univ fun t => outAt c t (outTile (tileAt m 3 c t))) ∗ common m K c 36)) := by
  rw [← sep_both, ← sep_both, ← sep_both, ← tiles_univ]
  refine runs_chain c _ (fun t => iprop(flying c 2 t ∗ outAny c t))
    (fun t => iprop(over c 2 t ∗ workAny c t ∗ outAt c t (outTile (tileAt m 3 c t))))
    (fun _ => common m K c 36) tiles 0 (fun t _ => ?_) (by decide) rfl
  iintro ⟨⟨Hf, Ho⟩, Hcom⟩
  iapply (runs_seq c (finish_step m K c 2 t 36 (by have : (2 : Fin 3).val = 2 := rfl; omega))) $$ [Hf Hcom]
  · isplitl [Hf]; · iexact Hf
    iexact Hcom
  iintro ⟨⟨Hw, Hov⟩, Hcom⟩
  iapply (runs_then c (writeOut_step c t (tileAt m ((2 : Fin 3).val + 1) c t))) $$ [Hw Ho]
  · isplitl [Hw]; · iexact Hw
    iexact Ho
  iintro ⟨Hw, Ho⟩
  isplitr [Hcom]
  · isplitl [Hov]; · iexact Hov
    isplitl [Hw]; · iexact Hw
    iexact Ho
  · iexact Hcom

theorem all_ready (c : Dev nD) :
    iprop((bigSep Finset.univ fun e : Ex => armed (F := F) c e.1 e.2) ∗ bigSep Finset.univ fun e : Ex => landing (F := F) (peer (dir e.1 e.2) c) e.1 e.2)
      = iprop((bigSep Finset.univ fun t => ready (F := F) c 0 t) ∗ (bigSep Finset.univ fun t => ready (F := F) c 1 t) ∗ bigSep Finset.univ fun t => ready (F := F) c 2 t) := by
  rw [← sep_both]; exact by_round fun w t => ready (F := F) c w t

/-- What `rest` needs. -/
def restPre (c : Dev nD) : sProp 𝕄 :=
  iprop(attnSt m c 0 ∗ copying c 4 ∗ (atPos ER (barCell c) 0 ∅ 0 ∗ cred (tallyAt (barCell c) () 3))
    ∗ (bigSep Finset.univ fun e : Ex => armed (F := F) c e.1 e.2) ∗ (bigSep Finset.univ fun t => workAny (F := F) c t)
    ∗ (bigSep Finset.univ fun t => outAny (F := F) c t) ∗ common m K c 0)

/-- What `rest` leaves. -/
def restPost (c : Dev nD) : sProp 𝕄 :=
  iprop(attnSt m c 16 ∗ copyPay m c 4 ∗ semVal (copyCell c 4) 0 ∗ semVal (barCell c) 0
    ∗ (bigSep Finset.univ fun e : Ex => over (F := F) c e.1 e.2) ∗ (bigSep Finset.univ fun t => workAny (F := F) c t)
    ∗ (bigSep Finset.univ fun t => outAt c t (outTile (tileAt m 3 c t))) ∗ common m K c 36)

theorem rest_run (c : Dev nD) : restPre m K c ⊢ runs c (rest c (argX m c) (argQ m c) (argK m c) (argV m c)) (fun _ => restPost m K c) := by
  unfold restPre rest
  iintro ⟨HA, Hc4, ⟨HaB, HcB⟩, Harm, Hw, Ho, Hcom⟩
  iapply (runs_seq c (show attnSt m c 0 ⊢ runs c _ (fun _ => attnSt m c 8) from heads_step m c 0)) $$ HA
  iintro HA
  iapply (copy_wait m K c 4 0 (Memref.whole main_arg4) woM rfl) $$ [Hc4 Hcom]
  · isplitl [Hc4]; · iexact Hc4
    iexact Hcom
  iintro ⟨Hp4, Hz4, Hcom⟩
  ihave Hp4 := (Entails.of_eq (show copyPay m c 4 = iprop(held c cc0_scratch4 (argO m c) ∗ held c main_arg4 (argO m c)) from rfl)) $$ Hp4
  icases Hp4 with ⟨Hwo, Harg⟩
  iapply (load_at c (M := woM) (argO m c) (argO m c) (Memref.readAt_unit_zero (Elt F) cc0_scratch4 (by funext a; match a with | 0 => rfl | 1 => rfl) _ _)) $$ Hwo
  iintro Hwo
  ihave Hw := (Entails.of_eq (cut_tiles fun t => workAny (F := F) c t)) $$ Hw
  icases Hw with ⟨Hw0, Hw1, Hw2⟩
  iapply (runs_seq c (makeTile_step m c 8 0 (by decide))) $$ [Hw0 HA]
  · isplitl [Hw0]; · iexact Hw0
    iexact HA
  iintro ⟨Hw0, HA⟩
  iapply (meeting m K c) $$ [HcB HaB Hcom]
  · isplitl [HcB]; · iexact HcB
    isplitl [HaB]; · iexact HaB
    iexact Hcom
  iintro ⟨Hland, HzB, Hcom⟩
  ihave Hr := (Entails.of_eq (all_ready (F := F) c)) $$ [Harm Hland]
  · isplitl [Harm]; · iexact Harm
    iexact Hland
  icases Hr with ⟨Hr0, Hr1, Hr2⟩
  ihave Hr0 := (Entails.of_eq (cut_tiles fun t => ready (F := F) c 0 t)) $$ Hr0
  icases Hr0 with ⟨Hr00, Hr01, Hr02⟩
  iapply (runs_seq c (start_step m K c 0 0)) $$ [Hw0 Hr00 Hcom]
  · isplitr [Hcom]
    · isplitl [Hw0]; · iexact Hw0
      iexact Hr00
    · iexact Hcom
  iintro ⟨Hf0, Hcom⟩
  iapply (runs_seq c (made m K c 8 early 1 (by decide) (by decide) rfl)) $$ [Hw1 Hr01 HA Hcom]
  · isplitl [Hw1 Hr01]
    · isplitl [Hw1]; · iexact Hw1
      iexact Hr01
    isplitl [HA]; · iexact HA
    iexact Hcom
  iintro ⟨Hf1, HA, Hcom⟩
  iapply (runs_seq c (show attnSt m c 8 ⊢ runs c _ (fun _ => attnSt m c 16) from heads_step m c 1)) $$ HA
  iintro HA
  iapply (runs_seq c (made m K c 16 late 6 (by decide) (by decide) rfl)) $$ [Hw2 Hr02 HA Hcom]
  · isplitl [Hw2 Hr02]
    · isplitl [Hw2]; · iexact Hw2
      iexact Hr02
    isplitl [HA]; · iexact HA
    iexact Hcom
  iintro ⟨Hf2, HA, Hcom⟩
  ihave Hf := (Entails.of_eq (cut_tiles fun t => flying (F := F) c 0 t).symm) $$ [Hf0 Hf1 Hf2]
  · isplitl [Hf0]; · iexact Hf0
    isplitl [Hf1]; · iexact Hf1
    iexact Hf2
  iapply (runs_seq c (round m K c 0 1 rfl)) $$ [Hf Hr1 Hcom]
  · isplitr [Hcom]
    · isplitl [Hf]; · iexact Hf
      iexact Hr1
    · iexact Hcom
  iintro ⟨⟨Hov0, Hf⟩, Hcom⟩
  iapply (runs_seq c (round m K c 1 2 rfl)) $$ [Hf Hr2 Hcom]
  · isplitr [Hcom]
    · isplitl [Hf]; · iexact Hf
      iexact Hr2
    · iexact Hcom
  iintro ⟨⟨Hov1, Hf⟩, Hcom⟩
  iapply (runs_then c (last m K c)) $$ [Hf Ho Hcom]
  · isplitr [Hcom]
    · isplitl [Hf]; · iexact Hf
      iexact Ho
    · iexact Hcom
  iintro ⟨⟨Hov2, Hw, Ho⟩, Hcom⟩
  ihave Hov := (Entails.of_eq (by_round fun w t => over (F := F) c w t).symm) $$ [Hov0 Hov1 Hov2]
  · isplitl [Hov0]; · iexact Hov0
    isplitl [Hov1]; · iexact Hov1
    iexact Hov2
  unfold restPost
  isplitl [HA]; · iexact HA
  isplitl [Hwo Harg]
  · iapply (Entails.of_eq (show iprop(held c cc0_scratch4 (argO m c) ∗ held c main_arg4 (argO m c)) = copyPay m c 4 from rfl))
    isplitl [Hwo]; · iexact Hwo
    iexact Harg
  isplitl [Hz4]; · iexact Hz4
  isplitl [HzB]; · iexact HzB
  isplitl [Hov]; · iexact Hov
  isplitl [Hw]; · iexact Hw
  isplitl [Ho]; · iexact Ho
  iexact Hcom

end Cert.KernelIdeal.Mesh

end
-- ==== Proof.Mesh.Run.lean ====
/- The whole body of one device: from its arguments and whatever its buffers held to the result, every semaphore back at
   zero. -/
module

public import proofs.«01_k».proof.Proof.Mesh.Rest

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-- Bringing an argument in, between whole buffers. -/
theorem bring {s : Shape} {e : EltTy} {sp sp' : Space} (c : Dev nD) (k : Fin 5) (src : Memref sig .tc sp s e) (dst : Memref sig .tc sp' s e)
    {hsrc : src.view.WordExact} {hdst : dst.view.WordExact} {hsem : DmaTarget.Typed (nD := nD) (τ := τ) (p := .tc) sp (.dma (copyS k)) (.here dst)}
    (fs : Buf (Elt F) (src.view.loc (c : Thread nD τ))) (fd' : Buf (Elt F) (dst.view.loc (c : Thread nD τ)))
    (hN : dst.view.amount (.dma (copyS k)) = copyN k) (hs : src.view.set = Finset.univ) (hd : dst.view.set = Finset.univ)
    (hw : ∀ fd, dst.view.write (Elt F) fd (src.view.read (Elt F) fs) Finset.univ = fd')
    (hpay : iprop((dst.view.loc (c : Thread nD τ) ↦{fullShare} fd') ∗ (src.view.loc (c : Thread nD τ) ↦{fullShare} fs)) ⊢ (copyPay m c k : sProp 𝕄))
    {n : PUnit → Code F} {Q : PUnit → sProp 𝕄} :
    iprop(ctx m K ∗ (src.view.loc (c : Thread nD τ) ↦{fullShare} fs) ∗ (∃ fd, dst.view.loc (c : Thread nD τ) ↦{fullShare} fd) ∗ copyKit c k)
      ⊢ iprop((copying c k -∗ runs c (n ⟨⟩) Q) -∗ runs c (Prog.lift (.enqueueDma src (.here dst) (.dma (copyS k)) hsrc hdst hsem) >>= n) Q) := by
  iintro ⟨Hctx, Hs, ⟨%fd, Hd⟩, Hk⟩
  iapply (copy_start m K c k src dst fs fd hN (by rw [hw, hs, hd]; exact hpay))
  isplitl [Hctx]; · iexact Hctx
  rw [hs, hd]
  isplitl [Hs]; · iexact Hs
  isplitl [Hd]; · iexact Hd
  iexact Hk

/-- The arguments of a device. -/
def args (c : Dev nD) : sProp 𝕄 :=
  iprop(held c main_arg0 (argX m c) ∗ held c main_arg1 (argQ m c) ∗ held c main_arg2 (argK m c) ∗ held c main_arg3 (argV m c)
    ∗ held c main_arg4 (argO m c))

/-- Its scratch buffers. -/
def scratch (c : Dev nD) : sProp 𝕄 :=
  iprop(anyOf c cc0_scratch0 ∗ anyOf c cc0_scratch1 ∗ anyOf c cc0_scratch2 ∗ anyOf c cc0_scratch3 ∗ anyOf c cc0_scratch4
    ∗ anyOf c cc0_scratch5 ∗ anyOf c cc0_scratch6 ∗ anyOf c cc0_scratch7)

/-- Its own semaphores, all at zero. -/
def zeroed (c : Dev nD) : sProp 𝕄 := bigSep Finset.univ fun o : Own => semVal (ownCell c o) 0

theorem zeroed_eq (c : Dev nD) : zeroed (F := F) c
    = iprop((bigSep Finset.univ fun k => semVal (copyCell c k) 0) ∗ (bigSep Finset.univ fun e : Ex => semVal (sendCell c e.1 e.2) 0)
        ∗ bigSep Finset.univ fun e : Ex => semVal (recvCell c e.1 e.2) 0) := by
  unfold zeroed
  refine (bigSep_univ_sum _).trans (congrArg (fun P => iprop(_ ∗ P)) ?_)
  exact bigSep_univ_sum _

/-- What the body needs. -/
def bodyPre (c : Dev nD) : sProp 𝕄 :=
  iprop(args m c ∗ scratch c ∗ anyOf c cc0_stg0_0 ∗ kit c ∗ ctx m K ∗ ∃ W, owes (c : Thread nD τ) (owedAll c) W)

/-- What it leaves. -/
def bodyPost (c : Dev nD) : sProp 𝕄 :=
  iprop(args m c ∗ scratch c ∗ held c cc0_stg0_0 (outOf m c) ∗ zeroed c ∗ semVal (barCell c) 0 ∗ ∃ W, owes (c : Thread nD τ) 0 W)

/-- What is left once `rest` is over. -/
theorem tidy (c : Dev nD) :
    iprop(restPost m K c
      ∗ (copyPay m c 0 ∗ copyPay m c 1 ∗ copyPay m c 2 ∗ copyPay m c 3)
      ∗ (semVal (copyCell c 0) 0 ∗ semVal (copyCell c 1) 0 ∗ semVal (copyCell c 2) 0 ∗ semVal (copyCell c 3) 0)
      ∗ workRest c ∗ recvRest c) ⊢ bodyPost m c := by
  have hov : (bigSep Finset.univ fun e : Ex => over (F := F) c e.1 e.2)
      = iprop((bigSep Finset.univ fun e : Ex => slotAny (F := F) c e.1 e.2) ∗ (bigSep Finset.univ fun e : Ex => semVal (sendCell c e.1 e.2) 0)
          ∗ bigSep Finset.univ fun e : Ex => semVal (recvCell c e.1 e.2) 0) := by
    rw [← sep_both, ← sep_both]; rfl
  unfold restPost bodyPost copyPay attnSt common args scratch
  rw [hov, zeroed_eq, sep_five, owed_last]
  iintro ⟨⟨⟨%fa, -, HA⟩, ⟨S4, A4⟩, Z4, HzB, ⟨Hsl, Hzs, Hzr⟩, Hw, Ho, -, HO⟩, ⟨⟨S0, A0⟩, ⟨S1, A1⟩, ⟨S2, A2⟩, ⟨S3, A3⟩⟩, ⟨Z0, Z1, Z2, Z3⟩, Hwr, Hrr⟩
  isplitl [A0 A1 A2 A3 A4]
  · isplitl [A0]; · iexact A0
    isplitl [A1]; · iexact A1
    isplitl [A2]; · iexact A2
    isplitl [A3]; · iexact A3
    iexact A4
  isplitl [S0 S1 S2 S3 S4 HA Hw Hwr Hsl Hrr]
  · isplitl [S0]; · iexists _; iexact S0
    isplitl [S1]; · iexists _; iexact S1
    isplitl [S2]; · iexists _; iexact S2
    isplitl [S3]; · iexists _; iexact S3
    isplitl [S4]; · iexists _; iexact S4
    isplitl [HA]; · iexists fa; iexact HA
    isplitl [Hw Hwr]
    · iapply (work_join c)
      isplitl [Hw]; · iexact Hw
      iexact Hwr
    · iapply (recv_join c)
      isplitl [Hsl]; · iexact Hsl
      iexact Hrr
  isplitl [Ho]; · iapply (out_join m c) $$ Ho
  isplitl [Z0 Z1 Z2 Z3 Z4 Hzs Hzr]
  · isplitl [Z0 Z1 Z2 Z3 Z4]
    · isplitl [Z0]; · iexact Z0
      isplitl [Z1]; · iexact Z1
      isplitl [Z2]; · iexact Z2
      isplitl [Z3]; · iexact Z3
      iexact Z4
    isplitl [Hzs]; · iexact Hzs
    iexact Hzr
  isplitl [HzB]; · iexact HzB
  iexact HO

/-- The part of the body from the first wait on. -/
def loads (d : Dev nD) : Code F := do
  Prog.lift (.waitDma2 (copyS 0) (Memref.whole main_arg0) xM (Memref.isWhole_whole _).wordExact (Memref.isWhole_whole _).wordExact)
  Prog.lift (.waitDma2 (copyS 1) (Memref.whole main_arg1) wqM (Memref.isWhole_whole _).wordExact (Memref.isWhole_whole _).wordExact)
  let x ← Prog.lift (.load xM (Rect.unit (s := S2x256x768) ![0, 0, 0] S2x256x768.size inb_S2x256x768_S2x256x768_0_0_0).toLoadRect (View.loadsAt_vmem h_S2x256x768))
  let wq ← Prog.lift (.load wqM (Rect.unit (s := S768x512) ![0, 0] S768x512.size inb_S768x512_S768x512_0_0).toLoadRect (View.loadsAt_vmem h_S768x512))
  Prog.lift (.waitDma2 (copyS 2) (Memref.whole main_arg2) wkM (Memref.isWhole_whole _).wordExact (Memref.isWhole_whole _).wordExact)
  let wk ← Prog.lift (.load wkM (Rect.unit (s := S768x512) ![0, 0] S768x512.size inb_S768x512_S768x512_0_0).toLoadRect (View.loadsAt_vmem h_S768x512))
  Prog.lift (.waitDma2 (copyS 3) (Memref.whole main_arg3) wvM (Memref.isWhole_whole _).wordExact (Memref.isWhole_whole _).wordExact)
  let wv ← Prog.lift (.load wvM (Rect.unit (s := S768x512) ![0, 0] S768x512.size inb_S768x512_S768x512_0_0).toLoadRect (View.loadsAt_vmem h_S768x512))
  rest d x wq wk wv

theorem zero2 : (![0, 0] : Fin 2 → ℕ) = fun _ => 0 := by funext a; match a with | 0 => rfl | 1 => rfl
theorem zero3 : (![0, 0, 0] : Fin 3 → ℕ) = fun _ => 0 := by funext a; match a with | 0 => rfl | 1 => rfl | 2 => rfl

theorem loads_run (c : Dev nD) :
    iprop((copying c 0 ∗ copying c 1 ∗ copying c 2 ∗ copying c 3 ∗ copying c 4) ∗ anyOf c cc0_scratch5
      ∗ (atPos ER (barCell c) 0 ∅ 0 ∗ cred (tallyAt (barCell c) () 3))
      ∗ (bigSep Finset.univ fun e : Ex => armed (F := F) c e.1 e.2) ∗ ((bigSep Finset.univ fun t => workAny (F := F) c t) ∗ workRest c) ∗ recvRest c
      ∗ anyOf c cc0_stg0_0 ∗ common m K c 0)
      ⊢ runs c (loads c) (fun _ => bodyPost m c) := by
  unfold loads
  iintro ⟨⟨C0, C1, C2, C3, C4⟩, ⟨%fa, HA⟩, HB, Harm, ⟨Hw, Hwr⟩, Hrr, ⟨%fo, Ho⟩, Hcom⟩
  iapply (copy_wait m K c 0 0 (Memref.whole main_arg0) xM rfl) $$ [C0 Hcom]
  · isplitl [C0]; · iexact C0
    iexact Hcom
  iintro ⟨P0, Z0, Hcom⟩
  iapply (copy_wait m K c 1 0 (Memref.whole main_arg1) wqM rfl) $$ [C1 Hcom]
  · isplitl [C1]; · iexact C1
    iexact Hcom
  iintro ⟨P1, Z1, Hcom⟩
  ihave P0 := (Entails.of_eq (show copyPay m c 0 = iprop(held c cc0_scratch0 (argX m c) ∗ held c main_arg0 (argX m c)) from rfl)) $$ P0
  icases P0 with ⟨S0, A0⟩
  iapply (load_at c (M := xM) (argX m c) (argX m c) (Memref.readAt_unit_zero (Elt F) cc0_scratch0 zero3 _ _)) $$ S0
  iintro S0
  ihave P1 := (Entails.of_eq (show copyPay m c 1 = iprop(held c cc0_scratch1 (argQ m c) ∗ held c main_arg1 (argQ m c)) from rfl)) $$ P1
  icases P1 with ⟨S1, A1⟩
  iapply (load_at c (M := wqM) (argQ m c) (argQ m c) (Memref.readAt_unit_zero (Elt F) cc0_scratch1 zero2 _ _)) $$ S1
  iintro S1
  iapply (copy_wait m K c 2 0 (Memref.whole main_arg2) wkM rfl) $$ [C2 Hcom]
  · isplitl [C2]; · iexact C2
    iexact Hcom
  iintro ⟨P2, Z2, Hcom⟩
  ihave P2 := (Entails.of_eq (show copyPay m c 2 = iprop(held c cc0_scratch2 (argK m c) ∗ held c main_arg2 (argK m c)) from rfl)) $$ P2
  icases P2 with ⟨S2, A2⟩
  iapply (load_at c (M := wkM) (argK m c) (argK m c) (Memref.readAt_unit_zero (Elt F) cc0_scratch2 zero2 _ _)) $$ S2
  iintro S2
  iapply (copy_wait m K c 3 0 (Memref.whole main_arg3) wvM rfl) $$ [C3 Hcom]
  · isplitl [C3]; · iexact C3
    iexact Hcom
  iintro ⟨P3, Z3, Hcom⟩
  ihave P3 := (Entails.of_eq (show copyPay m c 3 = iprop(held c cc0_scratch3 (argV m c) ∗ held c main_arg3 (argV m c)) from rfl)) $$ P3
  icases P3 with ⟨S3, A3⟩
  iapply (load_at c (M := wvM) (argV m c) (argV m c) (Memref.readAt_unit_zero (Elt F) cc0_scratch3 zero2 _ _)) $$ S3
  iintro S3
  iapply (runs_then c (rest_run m K c)) $$ [HA C4 HB Harm Hw Ho Hcom]
  · unfold restPre
    isplitl [HA]
    · unfold attnSt; iexists fa
      isplitr; · ipureintro; intro i hi; exact absurd hi (Nat.not_lt_zero _)
      iexact HA
    isplitl [C4]; · iexact C4
    isplitl [HB]; · iexact HB
    isplitl [Harm]; · iexact Harm
    isplitl [Hw]; · iexact Hw
    isplitl [Ho]; · iapply (out_cut c fo) $$ Ho
    iexact Hcom
  iintro Hpost
  iapply (tidy m K c)
  isplitl [Hpost]; · iexact Hpost
  isplitl [S0 A0 S1 A1 S2 A2 S3 A3]
  · unfold copyPay
    isplitl [S0 A0]
    · isplitl [S0]; · iexact S0
      iexact A0
    isplitl [S1 A1]
    · isplitl [S1]; · iexact S1
      iexact A1
    isplitl [S2 A2]
    · isplitl [S2]; · iexact S2
      iexact A2
    isplitl [S3]; · iexact S3
    iexact A3
  isplitl [Z0 Z1 Z2 Z3]
  · isplitl [Z0]; · iexact Z0
    isplitl [Z1]; · iexact Z1
    isplitl [Z2]; · iexact Z2
    iexact Z3
  isplitl [Hwr]; · iexact Hwr
  iexact Hrr

theorem device_id (c : Dev nD) {k : Dev nD → Code F} {P : sProp 𝕄} {Q : PUnit → sProp 𝕄} (h : P ⊢ runs c (k c) Q) :
    P ⊢ runs c (Prog.lift .deviceId >>= k) Q := by
  simp only [Prog.lift, Prog.bind_op, Prog.bind_ret, runs, wp_deviceId]
  exact h

/-- The part of the body from the first raise on. -/
def meets (d : Dev nD) : Code F := do
  semSignalWord (peer 0 d) barS 1#32
  semSignalWord (peer 1 d) barS 1#32
  semSignalWord (peer 2 d) barS 1#32
  loads d

theorem meets_run (c : Dev nD) :
    iprop((copying c 0 ∗ copying c 1 ∗ copying c 2 ∗ copying c 3 ∗ copying c 4) ∗ anyOf c cc0_scratch5
      ∗ (atPos ER (barCell c) 0 ∅ 0 ∗ cred (tallyAt (barCell c) () 3)
          ∗ dutyTok ER (barCell (peer 0 c)) 0 0 ∗ dutyTok ER (barCell (peer 1 c)) 0 1 ∗ dutyTok ER (barCell (peer 2 c)) 0 2)
      ∗ (bigSep Finset.univ fun e : Ex => reached ER (recvCell c e.1 e.2) 0)
      ∗ (bigSep Finset.univ fun e : Ex => armed (F := F) c e.1 e.2) ∗ anyOf c cc0_scratch6 ∗ anyOf c cc0_scratch7
      ∗ anyOf c cc0_stg0_0 ∗ ctx m K ∗ ∃ W, owes (c : Thread nD τ) (owedAll c) W)
      ⊢ runs c (meets c) (fun _ => bodyPost m c) := by
  unfold meets owedAll
  iintro ⟨HC, HA, ⟨HaB, HcB, T0, T1, T2⟩, Hrch, Harm, Hw, Hr, Ho, #Hctx, ⟨%W, HO⟩⟩
  ihave Hr := (recv_cut c) $$ Hr
  icases Hr with ⟨Hr, Hrr⟩
  ihave Hpay := (pays c) $$ [Hr Hrch]
  · isplitl [Hr]; · iexact Hr
    iexact Hrch
  icases Hpay with ⟨B0, B1, B2⟩
  iapply (meet m K c 0 ((owed c 0 + tallyAt (barCell (peer 2 c)) () 1) + tallyAt (barCell (peer 1 c)) () 1)) $$ [HO T0 B0]
  · isplitr; · iexact Hctx
    isplitl [HO]; · iexact HO
    isplitl [T0]; · iexact T0
    iexact B0
  iintro HO
  iapply (meet m K c 1 (owed c 0 + tallyAt (barCell (peer 2 c)) () 1)) $$ [HO T1 B1]
  · isplitr; · iexact Hctx
    isplitl [HO]; · iexact HO
    isplitl [T1]; · iexact T1
    iexact B1
  iintro HO
  iapply (meet m K c 2 (owed c 0)) $$ [HO T2 B2]
  · isplitr; · iexact Hctx
    isplitl [HO]; · iexact HO
    isplitl [T2]; · iexact T2
    iexact B2
  iintro HO
  ihave Hw := (work_cut c) $$ Hw
  iapply (loads_run m K c)
  isplitl [HC]; · iexact HC
  isplitl [HA]; · iexact HA
  isplitl [HaB HcB]
  · isplitl [HaB]; · iexact HaB
    iexact HcB
  isplitl [Harm]; · iexact Harm
  isplitl [Hw]; · iexact Hw
  isplitl [Hrr]; · iexact Hrr
  isplitl [Ho]; · iexact Ho
  unfold common
  isplitr; · iexact Hctx
  iexists W; iexact HO

/-- The body's first five operations, and what follows. -/
def starts (d : Dev nD) : Code F := do
  Prog.lift (.enqueueDma (Memref.whole main_arg0) (.here xM) (.dma (copyS 0)) (Memref.isWhole_whole _).wordExact (Memref.isWhole_whole _).wordExact ⟨Or.inl rfl, trivial⟩)
  Prog.lift (.enqueueDma (Memref.whole main_arg1) (.here wqM) (.dma (copyS 1)) (Memref.isWhole_whole _).wordExact (Memref.isWhole_whole _).wordExact ⟨Or.inl rfl, trivial⟩)
  Prog.lift (.enqueueDma (Memref.whole main_arg2) (.here wkM) (.dma (copyS 2)) (Memref.isWhole_whole _).wordExact (Memref.isWhole_whole _).wordExact ⟨Or.inl rfl, trivial⟩)
  Prog.lift (.enqueueDma (Memref.whole main_arg3) (.here wvM) (.dma (copyS 3)) (Memref.isWhole_whole _).wordExact (Memref.isWhole_whole _).wordExact ⟨Or.inl rfl, trivial⟩)
  Prog.lift (.enqueueDma (Memref.whole main_arg4) (.here woM) (.dma (copyS 4)) (Memref.isWhole_whole _).wordExact (Memref.isWhole_whole _).wordExact ⟨Or.inl rfl, trivial⟩)
  meets d

theorem bring0 (c : Dev nD) {n : PUnit → Code F} {Q : PUnit → sProp 𝕄} :
    iprop(ctx m K ∗ held c main_arg0 (argX m c) ∗ anyOf c cc0_scratch0 ∗ copyKit c 0)
      ⊢ iprop((copying c 0 -∗ runs c (n ⟨⟩) Q) -∗ runs c (Prog.lift (.enqueueDma (Memref.whole main_arg0) (.here xM) (.dma (copyS 0))
          (Memref.isWhole_whole _).wordExact (Memref.isWhole_whole _).wordExact ⟨Or.inl rfl, trivial⟩) >>= n) Q) :=
  bring m K c 0 (Memref.whole main_arg0) xM (argX m c) (argX m c) rfl (View.set_whole _) (View.set_whole _)
    (fun fd => View.write_whole_univ _ _ _) .rfl

theorem bring1 (c : Dev nD) {n : PUnit → Code F} {Q : PUnit → sProp 𝕄} :
    iprop(ctx m K ∗ held c main_arg1 (argQ m c) ∗ anyOf c cc0_scratch1 ∗ copyKit c 1)
      ⊢ iprop((copying c 1 -∗ runs c (n ⟨⟩) Q) -∗ runs c (Prog.lift (.enqueueDma (Memref.whole main_arg1) (.here wqM) (.dma (copyS 1))
          (Memref.isWhole_whole _).wordExact (Memref.isWhole_whole _).wordExact ⟨Or.inl rfl, trivial⟩) >>= n) Q) :=
  bring m K c 1 (Memref.whole main_arg1) wqM (argQ m c) (argQ m c) rfl (View.set_whole _) (View.set_whole _)
    (fun fd => View.write_whole_univ _ _ _) .rfl

theorem bring2 (c : Dev nD) {n : PUnit → Code F} {Q : PUnit → sProp 𝕄} :
    iprop(ctx m K ∗ held c main_arg2 (argK m c) ∗ anyOf c cc0_scratch2 ∗ copyKit c 2)
      ⊢ iprop((copying c 2 -∗ runs c (n ⟨⟩) Q) -∗ runs c (Prog.lift (.enqueueDma (Memref.whole main_arg2) (.here wkM) (.dma (copyS 2))
          (Memref.isWhole_whole _).wordExact (Memref.isWhole_whole _).wordExact ⟨Or.inl rfl, trivial⟩) >>= n) Q) :=
  bring m K c 2 (Memref.whole main_arg2) wkM (argK m c) (argK m c) rfl (View.set_whole _) (View.set_whole _)
    (fun fd => View.write_whole_univ _ _ _) .rfl

theorem bring3 (c : Dev nD) {n : PUnit → Code F} {Q : PUnit → sProp 𝕄} :
    iprop(ctx m K ∗ held c main_arg3 (argV m c) ∗ anyOf c cc0_scratch3 ∗ copyKit c 3)
      ⊢ iprop((copying c 3 -∗ runs c (n ⟨⟩) Q) -∗ runs c (Prog.lift (.enqueueDma (Memref.whole main_arg3) (.here wvM) (.dma (copyS 3))
          (Memref.isWhole_whole _).wordExact (Memref.isWhole_whole _).wordExact ⟨Or.inl rfl, trivial⟩) >>= n) Q) :=
  bring m K c 3 (Memref.whole main_arg3) wvM (argV m c) (argV m c) rfl (View.set_whole _) (View.set_whole _)
    (fun fd => View.write_whole_univ _ _ _) .rfl

theorem bring4 (c : Dev nD) {n : PUnit → Code F} {Q : PUnit → sProp 𝕄} :
    iprop(ctx m K ∗ held c main_arg4 (argO m c) ∗ anyOf c cc0_scratch4 ∗ copyKit c 4)
      ⊢ iprop((copying c 4 -∗ runs c (n ⟨⟩) Q) -∗ runs c (Prog.lift (.enqueueDma (Memref.whole main_arg4) (.here woM) (.dma (copyS 4))
          (Memref.isWhole_whole _).wordExact (Memref.isWhole_whole _).wordExact ⟨Or.inl rfl, trivial⟩) >>= n) Q) :=
  bring m K c 4 (Memref.whole main_arg4) woM (argO m c) (argO m c) rfl (View.set_whole _) (View.set_whole _)
    (fun fd => View.write_whole_univ _ _ _) .rfl

theorem starts_run (c : Dev nD) : bodyPre m K c ⊢ runs c (starts c) (fun _ => bodyPost m c) := by
  unfold bodyPre args scratch kit starts
  rw [sep_three, sep_five]
  iintro ⟨⟨A0, A1, A2, A3, A4⟩, ⟨S0, S1, S2, S3, S4, HA, Hw, Hr⟩, Ho, ⟨HB, ⟨K0, K1, K2, K3, K4⟩, Hrch, Harm⟩, #Hctx, HO⟩
  iapply (bring0 m K c) $$ [A0 S0 K0]
  · isplitr; · iexact Hctx
    isplitl [A0]; · iexact A0
    isplitl [S0]; · iexact S0
    iexact K0
  iintro C0
  iapply (bring1 m K c) $$ [A1 S1 K1]
  · isplitr; · iexact Hctx
    isplitl [A1]; · iexact A1
    isplitl [S1]; · iexact S1
    iexact K1
  iintro C1
  iapply (bring2 m K c) $$ [A2 S2 K2]
  · isplitr; · iexact Hctx
    isplitl [A2]; · iexact A2
    isplitl [S2]; · iexact S2
    iexact K2
  iintro C2
  iapply (bring3 m K c) $$ [A3 S3 K3]
  · isplitr; · iexact Hctx
    isplitl [A3]; · iexact A3
    isplitl [S3]; · iexact S3
    iexact K3
  iintro C3
  iapply (bring4 m K c) $$ [A4 S4 K4]
  · isplitr; · iexact Hctx
    isplitl [A4]; · iexact A4
    isplitl [S4]; · iexact S4
    iexact K4
  iintro C4
  iapply (meets_run m K c)
  isplitl [C0 C1 C2 C3 C4]
  · isplitl [C0]; · iexact C0
    isplitl [C1]; · iexact C1
    isplitl [C2]; · iexact C2
    isplitl [C3]; · iexact C3
    iexact C4
  isplitl [HA]; · iexact HA
  isplitl [HB]; · iexact HB
  isplitl [Hrch]; · iexact Hrch
  isplitl [Harm]; · iexact Harm
  isplitl [Hw]; · iexact Hw
  isplitl [Hr]; · iexact Hr
  isplitl [Ho]; · iexact Ho
  isplitr; · iexact Hctx
  iexact HO

theorem body_run (c : Dev nD) : bodyPre m K c ⊢ runs c body (fun _ => bodyPost m c) := device_id c (starts_run m K c)

end Cert.KernelIdeal.Mesh

end
-- ==== Proof.Mesh.Fund.lean ====
/- What the launch deals each device: the tokens of the raises it makes, its semaphores' openings, and credit for what the
   others will send it; and how these become what the body starts with. -/
module

public import proofs.«01_k».proof.Proof.Mesh.Run
public import Idealize.ShloMosaic.Harness.Basic
public import Idealize.ShloMosaic.Lib.Pipeline.RegionTalk

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ)

/-! ## Tokens -/

/-- A device's raises: three at the meeting, one on each own semaphore. -/
abbrev Tok := Fin 3 ⊕ Own

abbrev tokOf : Dev nD × Tok → GSem nD τ sig × ℕ × Fin 3
  | (c, .inl k) => (barCell c, 0, k)
  | (c, .inr o) => (ownCell c o, 0, 0)

theorem tokOf_inj : Function.Injective tokOf := by
  rintro ⟨c, k | o⟩ ⟨c', k' | o'⟩ h
  · have hc : c = c' := congrArg (fun x : GSem nD τ sig × ℕ × Fin 3 => x.1.1.1) h
    have hk : k = k' := congrArg (fun x : GSem nD τ sig × ℕ × Fin 3 => x.2.2) h
    rw [hc, hk]
  · exact absurd (congrArg (fun x : GSem nD τ sig × ℕ × Fin 3 => x.1.2) h).symm (ownS_ne_bar o')
  · exact absurd (congrArg (fun x : GSem nD τ sig × ℕ × Fin 3 => x.1.2) h) (ownS_ne_bar o)
  · have hc : c = c' := congrArg (fun x : GSem nD τ sig × ℕ × Fin 3 => x.1.1.1) h
    have ho : o = o' := ownS_inj (congrArg (fun x : GSem nD τ sig × ℕ × Fin 3 => x.1.2) h)
    rw [hc, ho]

def tokens : Finset (GSem nD τ sig × ℕ × Fin 3) := Finset.univ.map ⟨tokOf, tokOf_inj⟩

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact ownS_ne_bar p.2 (congrArg Prod.snd h)

/-- Families over the devices may be handed along a pairing each. -/
theorem around {I : Type} [Fintype I] (d : I → Fin 3) (Φ : Dev nD → I → sProp 𝕄) :
    (bigSep Finset.univ fun c => bigSep Finset.univ fun i => Φ c i)
      = bigSep Finset.univ fun c => bigSep Finset.univ fun i => Φ (peer (d i) c) i := by
  rw [BI.bigSep_univ_comm, BI.bigSep_univ_comm (fun c i => Φ (peer (d i) c) i)]
  exact bigSep_congr fun i _ => BI.bigSep_univ_equiv (swap (d i)) fun c => Φ c i

/-- The tokens of the raises device `c` makes: at the three meetings, on its own copies and departures, at the arrivals of
    those it sends to. -/
def raises (c : Dev nD) : sProp 𝕄 :=
  iprop((bigSep Finset.univ fun k : Fin 3 => dutyTok ER (barCell (peer k c)) 0 k)
    ∗ (bigSep Finset.univ fun k : Fin 5 => dutyTok ER (copyCell c k) 0 0)
    ∗ (bigSep Finset.univ fun e : Ex => dutyTok ER (sendCell c e.1 e.2) 0 0)
    ∗ bigSep Finset.univ fun e : Ex => dutyTok ER (recvCell (peer (dir e.1 e.2) c) e.1 e.2) 0 0)

theorem raises_eq : bigSep tokens (fun x => (dutyTok ER x.1 x.2.1 x.2.2 : sProp 𝕄)) = bigSep Finset.univ fun c : Dev nD => raises c := by
  have h : bigSep tokens (fun x => (dutyTok ER x.1 x.2.1 x.2.2 : sProp 𝕄))
      = bigSep Finset.univ fun c : Dev nD => iprop((bigSep Finset.univ fun k : Fin 3 => dutyTok ER (barCell c) 0 k)
        ∗ (bigSep Finset.univ fun k : Fin 5 => dutyTok ER (copyCell c k) 0 0)
        ∗ (bigSep Finset.univ fun e : Ex => dutyTok ER (sendCell c e.1 e.2) 0 0)
        ∗ bigSep Finset.univ fun e : Ex => dutyTok ER (recvCell c e.1 e.2) 0 0) := by
    unfold tokens; rw [bigSep_map, bigSep_univ_prod]
    refine bigSep_congr fun c _ => (bigSep_univ_sum _).trans (congrArg (fun P => iprop(_ ∗ P)) ?_)
    refine (bigSep_univ_sum _).trans (congrArg (fun P => iprop(_ ∗ P)) ?_)
    exact bigSep_univ_sum _
  rw [h, sep_both, sep_both, sep_both, around id (fun c k => dutyTok ER (barCell c) 0 k),
    around (fun e : Ex => dir e.1 e.2) (fun c e => dutyTok ER (recvCell c e.1 e.2) 0 0)]
  unfold raises
  rw [sep_both, sep_both, sep_both]
  rfl

/-! ## Credit -/

theorem dir_back (w : Fin 3) (t : Fin 12) (c d : Dev nD) : c = peer (dir w t) d ↔ d = peer (dir w t) c :=
  ⟨fun h => by rw [h, peer_peer], fun h => by rw [h, peer_peer]⟩

theorem owed_at (d c : Dev nD) (w : Fin 3) (t : Fin 12) :
    owedAll d (recvCell c w t) () = if d = peer (dir w t) c then tileN else 0 := by
  have hb : ∀ k, (tallyAt (barCell (peer k d)) () 1 : CellTallies nD τ sig Unit) (recvCell c w t) = 0 := fun k =>
    tallyAt_ne_cell (fun h => ownS_ne_bar (recvO w t) (congrArg Prod.snd h)) _ _
  unfold owedAll owed
  rw [Pi.add_apply, Pi.add_apply, Pi.add_apply, hb, hb, hb, add_zero, add_zero, add_zero, Finset.sum_apply, Finsupp.finset_sum_apply]
  rw [Finset.sum_eq_single (w, t)]
  · rw [tallyAt_apply]
    by_cases h : d = peer (dir w t) c
    · rw [if_pos h, if_pos ⟨by rw [h, peer_peer], rfl⟩]
    · rw [if_neg h, if_neg fun h' => h ((dir_back w t c d).mp (congrArg (fun g : GSem nD τ sig => g.1.1) h'.1))]
  · intro e _ he
    rw [tallyAt_apply, if_neg]
    rintro ⟨h, -⟩
    have := ownS_inj (a₁ := recvO w t) (a₂ := recvO e.1 e.2) (congrArg Prod.snd h)
    exact he (Sum.inr.inj (Sum.inr.inj this)).symm
  · intro h
    exact absurd (Finset.mem_filter.mpr ⟨Finset.mem_univ (w, t), Nat.zero_le (num (w, t))⟩) h

theorem owed_bar (d c : Dev nD) : owedAll d (barCell c) ()
    = (if d = peer 2 c then 1 else 0) + (if d = peer 1 c then 1 else 0) + if d = peer 0 c then 1 else 0 := by
  have hb : ∀ k : Fin 3, (tallyAt (barCell (peer k d)) () 1 : CellTallies nD τ sig Unit) (barCell c) () = if d = peer k c then 1 else 0 := fun k => by
    rw [tallyAt_apply]
    by_cases h : d = peer k c
    · rw [if_pos h, if_pos ⟨by rw [h, peer_peer], rfl⟩]
    · rw [if_neg h, if_neg fun h' => h (by
        have := congrArg (fun g : GSem nD τ sig => g.1.1) h'.1
        rw [show c = peer k d from this, peer_peer])]
  have h0 : owed d 0 (barCell c) () = 0 := by
    by_contra h
    obtain ⟨w, t, -, h⟩ := owed_pos (Nat.pos_of_ne_zero h)
    exact ownS_ne_bar (recvO w t) (congrArg Prod.snd h).symm
  unfold owedAll
  rw [Pi.add_apply, Pi.add_apply, Pi.add_apply, Finsupp.add_apply, Finsupp.add_apply, Finsupp.add_apply, hb, hb, hb, h0, Nat.zero_add]

theorem launch_recv (c : Dev nD) (w : Fin 3) (t : Fin 12) :
    tallyOn (recvCell c w t) (launchCredit (Pipeline.owing owedAll) 0 (recvCell c w t)) = (tallyAt (recvCell c w t) () tileN : CellTallies nD τ sig Unit) := by
  unfold tallyAt; refine congrArg _ (Finsupp.ext fun u => ?_); cases u
  rw [Pipeline.launchCredit_owing, Finsupp.single_eq_same, Finset.sum_congr rfl fun d _ => owed_at d c w t,
    Finset.sum_ite_eq' Finset.univ (peer (dir w t) c) fun _ => tileN, if_pos (Finset.mem_univ _)]

theorem launch_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib]
  have h : ∀ k : Fin 3, (∑ d : Dev nD, if d = peer k c then 1 else 0) = 1 := fun k => by
    rw [Finset.sum_ite_eq' Finset.univ (peer k c) fun _ => 1, if_pos (Finset.mem_univ _)]
  rw [h, h, h]

/-- Credit for the meeting and for every arrival. -/
def credits (c : Dev nD) : sProp 𝕄 :=
  iprop(cred (tallyAt (barCell c) () 3) ∗ bigSep Finset.univ fun e : Ex => cred (tallyAt (recvCell c e.1 e.2) () tileN))

def awaited : Ex ↪ SemLoc sig :=
  ⟨fun e => .dma (recvS e.1 e.2), fun a b h => by
    have := ownS_inj (a₁ := recvO a.1 a.2) (a₂ := recvO b.1 b.2) h
    exact Sum.inr.inj (Sum.inr.inj this)⟩

theorem credits_intro (c : Dev nD) : (Pipeline.launchCred owedAll c : sProp 𝕄) ⊢ credits c := by
  have h1 : bigSep (Finset.univ.erase (SemLoc.reg barS)) (fun sm : SemLoc sig =>
        (cred (tallyOn ((c : Thread nD τ), sm) (launchCredit (Pipeline.owing owedAll) 0 ((c : Thread nD τ), sm))) : sProp 𝕄))
      ⊢ bigSep Finset.univ fun e : Ex => cred (tallyAt (recvCell c e.1 e.2) () tileN) := by
    refine BIBase.Entails.trans (BI.bigSep_subset (t := Finset.univ.map awaited) fun sm hsm => ?_) (Entails.of_eq ?_)
    · obtain ⟨e, -, rfl⟩ := Finset.mem_map.mp hsm
      exact Finset.mem_erase.mpr ⟨ownS_ne_bar (recvO e.1 e.2), Finset.mem_univ _⟩
    · rw [bigSep_map]
      exact bigSep_congr fun e _ => congrArg cred (launch_recv c e.1 e.2)
  unfold Pipeline.launchCred credits
  rw [bigSep_univ_at _ (SemLoc.reg barS), launch_bar]
  exact sep_mono_right h1

/-! ## Opening -/

/-- An update each, over a family, as one. -/
theorem update_all {I : Type} [DecidableEq I] (R : sProp 𝕄) [BI.Persistent R] (Φ Ψ : I → sProp 𝕄)
    (h : ∀ i, iprop(R ∗ Φ i) ⊢ |={Set.univ}=> Ψ i) (s : Finset I) :
    iprop(R ∗ bigSep s Φ) ⊢ |={Set.univ}=> bigSep s Ψ := by
  induction s using Finset.induction_on with
  | empty => rw [bigSep_empty, bigSep_empty]; iintro -; imodintro; iempintro
  | insert i s hi ih =>
    have e : ∀ X : I → sProp 𝕄, bigSep (insert i s) X = iprop(X i ∗ bigSep s X) := fun X => bigSep_insert hi
    rw [e, e]
    iintro ⟨#HR, Hi, Hs⟩
    imod (h i) $$ [Hi] with Hi
    · isplitr; · iexact HR
      iexact Hi
    imod ih $$ [Hs] with Hs
    · isplitr; · iexact HR
      iexact Hs
    imodintro
    isplitl [Hi]; · iexact Hi
    iexact Hs

/-- What device `c` is dealt besides credit: its place at the meeting, the right to open each own semaphore, its tokens. -/
def dealt (c : Dev nD) : sProp 𝕄 :=
  iprop(atPos ER (barCell c) 0 ∅ 0 ∗ (bigSep Finset.univ fun o : Own => openTok ER (ownCell c o)) ∗ raises c)

theorem open_all (c : Dev nD) : iprop(ctx m K ∗ (bigSep Finset.univ fun o : Own => openTok ER (ownCell c o)) ∗ zeroed c)
    ⊢ |={Set.univ}=> bigSep Finset.univ fun o : Own => iprop(atPos ER (ownCell c o) 0 ∅ 0 ∗ reached ER (ownCell c o) 0) := by
  unfold zeroed
  rw [← sep_both]
  refine update_all (ctx m K) _ _ (fun o => ?_) Finset.univ
  iintro ⟨Hc, Ho, Hz⟩
  iapply (Rounds.cell_open ER (sched m) (g := ownCell c o) (Set.mem_univ (K (ownCell c o))))
  isplitl [Hc]; · iapply (ctx_own c o) $$ Hc
  isplitl [Ho] <;> iassumption

theorem own_parts (Φ : Own → sProp 𝕄) : bigSep Finset.univ Φ
    = iprop((bigSep Finset.univ fun k => Φ (copyO k)) ∗ (bigSep Finset.univ fun e : Ex => Φ (sendO e.1 e.2))
        ∗ bigSep Finset.univ fun e : Ex => Φ (recvO e.1 e.2)) := by
  refine (bigSep_univ_sum _).trans (congrArg (fun P => iprop(_ ∗ P)) ?_)
  exact bigSep_univ_sum _

/-- The semaphores open, by kind. -/
theorem open_kinds (c : Dev nD) : (bigSep Finset.univ fun o : Own => iprop(atPos ER (ownCell c o) 0 ∅ 0 ∗ reached ER (ownCell c o) 0))
    = (iprop(((bigSep Finset.univ fun k => atPos ER (copyCell c k) 0 ∅ 0) ∗ bigSep Finset.univ fun k => reached ER (copyCell c k) 0)
        ∗ ((bigSep Finset.univ fun e : Ex => atPos ER (sendCell c e.1 e.2) 0 ∅ 0) ∗ bigSep Finset.univ fun e : Ex => reached ER (sendCell c e.1 e.2) 0)
        ∗ (bigSep Finset.univ fun e : Ex => atPos ER (recvCell c e.1 e.2) 0 ∅ 0) ∗ bigSep Finset.univ fun e : Ex => reached ER (recvCell c e.1 e.2) 0) : sProp 𝕄) := by
  rw [own_parts, sep_both, sep_both, sep_both]

/-- With the semaphores open, everything dealt is what the body starts with. -/
theorem kit_intro (c : Dev nD) :
    iprop(ctx m K ∗ dealt c ∗ credits c ∗ zeroed c) ⊢ |={Set.univ}=> (kit c : sProp 𝕄) := by
  unfold dealt credits raises kit copyKit armed
  rw [sep_both, sep_both, sep_both, sep_both, sep_both, sep_both, sep_both]
  iintro ⟨Hc, ⟨Hb, Ho, Tb, Tc, Ts, Tr⟩, ⟨Cb, Cr⟩, Hz⟩
  imod (open_all m K c) $$ [Hc Ho Hz] with H
  · isplitl [Hc]; · iexact Hc
    isplitl [Ho] <;> iassumption
  imodintro
  ihave H := (Entails.of_eq (open_kinds (F := F) c)) $$ H
  icases H with ⟨⟨Ac, Rc⟩, ⟨As, Rs⟩, Ar, Rr⟩
  isplitl [Hb Cb Tb]
  · isplitl [Hb]; · iexact Hb
    isplitl [Cb]; · iexact Cb
    iexact Tb
  isplitl [Ac Rc Tc]
  · isplitl [Ac]; · iexact Ac
    isplitl [Rc]; · iexact Rc
    iexact Tc
  isplitl [Rr]; · iexact Rr
  isplitl [As]; · iexact As
  isplitl [Ar]; · iexact Ar
  isplitl [Rs]; · iexact Rs
  isplitl [Ts]; · iexact Ts
  isplitl [Tr]; · iexact Tr
  iexact Cr

end Cert.KernelIdeal.Mesh

end
-- ==== Proof.Mesh.Region.lean ====
/- The kernel as one region of the program: what it is entered with, what it leaves, and that its body does so. -/
module

public import proofs.«01_k».proof.Proof.Mesh.Fund
public import proofs.«01_k».proof.Proof.Gen.KernelIdeal.Launch
public import proofs.«01_k».proof.Proof.Gen.KernelIdeal.Points
public import Idealize.ShloMosaic.Lib.Pipeline.Value

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The buffers -/

/-- The buffers the kernel's window does not move. -/
def others : Finset (DevRef τ sig) := {Proc.devRef .tc main_arg0, Proc.devRef .tc main_arg1, Proc.devRef .tc main_arg2,
  Proc.devRef .tc main_arg3, Proc.devRef .tc main_arg4, Proc.devRef .tc main_v2}

/-- A device's buffers as launched. -/
def V₁ (c : Dev nD) : Valuation τ sig (Elt F) := fun b => m ((c : Dev nD), b)

/-- And once the kernel has run. -/
def V₂ (c : Dev nD) : Valuation τ sig (Elt F) := Function.update (V₁ m c) (Proc.devRef .tc main_v1) (outOf m c)

theorem V₂_v1 (c : Dev nD) : V₂ m c (Proc.devRef .tc main_v1) = outOf m c := Function.update_self _ _ _
theorem V₂_ne (c : Dev nD) {b : DevRef τ sig} (h : b ≠ Proc.devRef .tc main_v1) : V₂ m c b = V₁ m c b := Function.update_of_ne h _ _

theorem held_others (c : Dev nD) (V : Valuation τ sig (Elt F)) :
    (StableHlo.held (c.tc : Thread nD τ) others V : sProp 𝕄)
      = iprop(held c main_arg0 (V (Proc.devRef .tc main_arg0)) ∗ held c main_arg1 (V (Proc.devRef .tc main_arg1))
        ∗ held c main_arg2 (V (Proc.devRef .tc main_arg2)) ∗ held c main_arg3 (V (Proc.devRef .tc main_arg3))
        ∗ held c main_arg4 (V (Proc.devRef .tc main_arg4)) ∗ held c main_v2 (V (Proc.devRef .tc main_v2))) := by
  unfold StableHlo.held
  rw [bigSep_eq_bigSepL_of_eq [Proc.devRef .tc main_arg0, Proc.devRef .tc main_arg1, Proc.devRef .tc main_arg2,
    Proc.devRef .tc main_arg3, Proc.devRef .tc main_arg4, Proc.devRef .tc main_v2] (by decide) (by decide)]
  rfl

/-- What rides along unread: the result's array, and the generator's register. -/
def aside (c : Dev nD) : sProp 𝕄 := iprop(held c main_v2 (m ((c : Thread nD τ).loc main_v2)) ∗ ∃ r, prngReg c r)

theorem others_before (c : Dev nD) : (StableHlo.held (c.tc : Thread nD τ) others (V₁ m c) : sProp 𝕄)
    = iprop(held c main_arg0 (argX m c) ∗ held c main_arg1 (argQ m c) ∗ held c main_arg2 (argK m c) ∗ held c main_arg3 (argV m c)
      ∗ held c main_arg4 (argO m c) ∗ held c main_v2 (m ((c : Thread nD τ).loc main_v2))) := held_others c (V₁ m c)

theorem others_after (c : Dev nD) : (StableHlo.held (c.tc : Thread nD τ) others (V₂ m c) : sProp 𝕄)
    = StableHlo.held (c.tc : Thread nD τ) others (V₁ m c) :=
  StableHlo.held_congr (c.tc : Thread nD τ) fun b hb => V₂_ne m c fun h => by
    rw [h] at hb; exact absurd hb (by decide)

/-! ## What the region is entered with and leaves -/

/-- Kept from launch to the region. -/
def Tk (c : Dev nD) : sProp 𝕄 := iprop((∃ K, ctx m K) ∗ dealt c ∗ credits c)
/-- With the semaphores open. -/
def Xk (c : Dev nD) : sProp 𝕄 := iprop((∃ K, ctx m K) ∗ kit c)
/-- Kept from the region on. -/
def Yk (c : Dev nD) : sProp 𝕄 := semVal (barCell c) 0

def entering (c : Dev nD) : sProp 𝕄 := iprop(args m c ∗ scratch c ∗ Xk m c ∗ aside m c)
def leaving (c : Dev nD) : sProp 𝕄 := iprop(args m c ∗ scratch c ∗ zeroed c ∗ Yk c ∗ aside m c)

def dat (c : Dev nD) : Dat τ (Elt F) Unit ℕ UU ℕ cfg0 c where
  A w := match w with
    | ⟨0, _⟩ => m ((c : Thread nD τ).loc main_v1)
  after w _ := match w with
    | ⟨0, _⟩ => outOf m c
  Φ t := match t with
    | ⟨0, _⟩ => entering m c
    | ⟨_ + 1, _⟩ => leaving m c
  q _ := fullShare
  owed t := match t with
    | ⟨0, _⟩ => owedAll c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owesAt_intro {cfg : Pipeline.Cfg sig Λ₀} {c : Dev nD} (d : Dat τ (Elt F) Unit ℕ UU ℕ cfg c) (t : Fin (cfg.N + 1))
    (O : CellTallies nD τ sig Unit) (h0 : d.owed t = O) (hr : d.recorded t = Set.univ) :
    iprop(∃ W, owes (c : Thread nD τ) O W) ⊢ (d.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (d : Dat τ (Elt F) Unit ℕ UU ℕ cfg c) (t : Fin (cfg.N + 1))
    (O : CellTallies nD τ sig Unit) (h0 : d.owed t = O) :
    (d.owesAt () t : sProp 𝕄) ⊢ iprop(∃ W, owes (c : Thread nD τ) O W) := by
  unfold Dat.owesAt Pipeline.owesWithin; rw [h0]
  iintro ⟨%W, -, HO⟩; iexists W; iexact HO

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The window's buffer, at some contents. -/
abbrev found (c : Dev nD) : sProp 𝕄 := iprop(∃ d, owns (Ix := Unit) (Name := ℕ) (U := UU) (Lvl := ℕ) (c : Thread nD τ)
  (Memref.whole cc0_stg0_0) fullShare ((dat m c).before (0 : Fin 1) t0_0 d))

theorem found_any (c : Dev nD) : found m c ⊢ (anyOf c cc0_stg0_0 : sProp 𝕄) := by
  unfold found; simp only [owns_whole]
  iintro ⟨%d, %f, -, H⟩; iexists f; iexact H

theorem left_out (c : Dev nD) : (held c cc0_stg0_0 (outOf m c) : sProp 𝕄)
    ⊢ owns (Ix := Unit) (Name := ℕ) (U := UU) (Lvl := ℕ) (c : Thread nD τ) (Memref.whole cc0_stg0_0) fullShare (outOf m c) := by
  rw [owns_whole]
  iintro H; iexists outOf m c; isplitr; · ipureintro; rfl
  iexact H

theorem body_at (c : Dev nD) : iprop(entering m c ∗ (dat m c).owesAt () (t0_0 : Fin cfg0.N).castSucc ∗ found m c)
    ⊢ runs c (body (F := F)) (fun _ => iprop(leaving m c ∗ (dat m c).owesAt () (t0_0 : Fin cfg0.N).succ
        ∗ owns (Ix := Unit) (Name := ℕ) (U := UU) (Lvl := ℕ) (c : Thread nD τ) (Memref.whole cc0_stg0_0) fullShare (outOf m c))) := by
  unfold entering Xk
  iintro ⟨⟨HA, HS, ⟨⟨%K, #Hc⟩, Hk⟩, Has⟩, HO, Hf⟩
  ihave HO := (owesAt_elim (dat m c) _ (owedAll c) rfl) $$ HO
  ihave Hf := (found_any m c) $$ Hf
  iapply (runs_then c (body_run m K c)) $$ [HA HS Hf Hk HO]
  · unfold bodyPre
    isplitl [HA]; · iexact HA
    isplitl [HS]; · iexact HS
    isplitl [Hf]; · iexact Hf
    isplitl [Hk]; · iexact Hk
    isplitr; · iexact Hc
    iexact HO
  unfold bodyPost leaving Yk
  iintro ⟨HA, HS, Ho, Hz, Hb, HO⟩
  isplitr [HO Ho]
  · isplitl [HA]; · iexact HA
    isplitl [HS]; · iexact HS
    isplitl [Hz]; · iexact Hz
    isplitl [Hb]; · iexact Hb
    iexact Has
  isplitl [HO]
  · iapply (owesAt_intro (dat m c) (t0_0 : Fin cfg0.N).succ 0 rfl rfl); iexact HO
  iapply (left_out m c) $$ Ho

theorem bodyAt_eq : (bodyAt0 t0_0 : Code F) = body := cc0_body_eq

set_option maxRecDepth 100000 in
/-- The library's obligation on the body. -/
theorem body_obligation (c : Dev nD) : BodyObligation (dat m c) (defs₀ (F := F)) 𝒱₀ () Set.univ := fun t => by
  rw [fin_N0 t, bigSep_W0, bigSep_W0]
  show iprop(entering m c ∗ (dat m c).owesAt () (t0_0 : Fin cfg0.N).castSucc ∗ found m c)
    ⊢ runs c (bodyAt0 (F := F) t0_0) (fun _ => iprop(leaving m c ∗ (dat m c).owesAt () (t0_0 : Fin cfg0.N).succ
        ∗ owns (Ix := Unit) (Name := ℕ) (U := UU) (Lvl := ℕ) (c : Thread nD τ) (Memref.whole cc0_stg0_0) fullShare (outOf m c)))
  rw [bodyAt_eq]
  exact body_at m c

/-! ## The array the region leaves -/

/-- The window's block at its one point is the whole array, index by index. -/
theorem place_zero : ∀ t : Fin cfg0.N, win0_0.index t (0 : Fin 2) = 0 ∧ win0_0.index t (1 : Fin 2) = 0 :=
  (by decide +kernel : ∀ t : Fin grid0.N, _)

theorem blk_emb (t : Fin cfg0.N) (j : S512x768.Idx) : ((cfg0.win 0).blk t).view.emb j = j := by
  obtain ⟨e0, e1⟩ := place_zero t
  funext a; apply Fin.ext
  match a with
  | ⟨0, _⟩ => show win0_0.index t (0 : Fin 2) * 512 + 1 * (j 0).val = (j 0).val; omega
  | ⟨1, _⟩ => show win0_0.index t (1 : Fin 2) * 768 + 1 * (j 1).val = (j 1).val; omega

theorem flushed_eq (c : Dev nD) (t : Fin cfg0.N) : (dat m c).flushed 0 t = ((cfg0.win 0).blk t).view.read (Elt F) (outOf m c) := by
  have h : ∀ X : Vec F S512x768 .f32, (cfg0.win 0).cut (grid0.coords t) X = ((cfg0.win 0).blk t).view.read (Elt F) X := fun X => by
    funext j
    show X j = X (((cfg0.win 0).blk t).view.emb j)
    rw [blk_emb]
  exact h (outOf m c)

theorem flush_0 (t : Fin cfg0.N) : (cfg0.win (0 : Fin 1)).flush t = true := by rw [fin_N0 t]; rfl

theorem covered (i : S512x768.Idx) : ∃ t : Fin cfg0.N, (cfg0.win 0).flush t = true ∧ i ∈ ((cfg0.win 0).blk t).view.set :=
  ⟨t0_0, flush_0 _, by have h := ((cfg0.win 0).blk (t0_0 : Fin cfg0.N)).view.emb_mem_set i; rwa [blk_emb] at h⟩

theorem array_eq (c : Dev nD) : (dat m c).arrAt 0 cfg0.N = outOf m c :=
  (dat m c).arrAt_eq_of_cover 0 (outOf m c) (fun t _ => flushed_eq m c t) covered

end Cert.KernelIdeal.Mesh

end
-- ==== Proof.Mesh.Segment.lean ====
/- The kernel's region as a segment of the program: how it is entered and left. -/
module

public import proofs.«01_k».proof.Proof.Mesh.Region

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The kernel's region -/

local notation "ℝ𝕊" => Pipeline.RegionSeg (pcfgs (F := F)) adm (pdats m) () defs₀ 𝒱₀ L lv

theorem ownFacts : Pipeline.OwnSemFacts spec0 ownS where
  isScoped o := by
    match o with
    | .inl k => exact (by decide +kernel : ∀ k : Fin 5, (ownS (.inl k)).isScoped .tc = true) k
    | .inr (.inl e) => exact (by decide +kernel : ∀ e : Ex, (ownS (.inr (.inl e))).isScoped .tc = true) e
    | .inr (.inr e) => exact (by decide +kernel : ∀ e : Ex, (ownS (.inr (.inr e))).isScoped .tc = true) e
  inj := ownS_inj
  disj o w s h := by
    have h1 := (which_own o).symm.trans (congrArg whichOwn h)
    have h2 : ∀ (w : Fin 1) (s : Fin (spec0 w).nbuf), whichOwn (.dma ((spec0 w).sem s)) = none := by decide +kernel
    rw [h2 w s] at h1
    exact absurd h1 (by simp)

theorem opening (c : Dev nD) : iprop(Tk m c ∗ Pipeline.ownSems0 ownS c ∗ levAts L lv) ⊢ (|={Set.univ}=> Xk m c : sProp 𝕄) := by
  show iprop(Tk m c ∗ zeroed c ∗ levAts L lv) ⊢ _
  unfold Tk Xk
  iintro ⟨⟨⟨%K, #Hc⟩, Hd, Hcr⟩, Hz, -⟩
  imod (kit_intro m K c) $$ [Hd Hcr Hz] with Hk
  · isplitr; · iexact Hc
    isplitl [Hd]; · iexact Hd
    isplitl [Hcr] <;> iassumption
  imodintro
  isplitr; · iexists K; iexact Hc
  iexact Hk

theorem scratch_eq (c : Dev nD) :
    (Pipeline.scopedRest (Ix := Unit) (Name := ℕ) (U := UU) (Lvl := ℕ) (Val := Elt F) (Pipeline.pin (pcfgs (F := F)) adm 0).spec c : sProp 𝕄) = scratch c :=
  scopedRest0_eq c

theorem entry (c : Dev nD) : iprop(Pipeline.scopedRest (Pipeline.pin (pcfgs (F := F)) adm 0).spec c ∗ (∃ r, prngReg c r)
      ∗ StableHlo.held (c.tc : Thread nD τ) others (V₁ m c) ∗ Xk m c) ⊢ (pdats m 0 c).Φ 0 := by
  show _ ⊢ entering m c
  rw [scratch_eq, others_before]
  unfold entering args aside
  iintro ⟨HS, Hp, ⟨A0, A1, A2, A3, A4, Hr⟩, HX⟩
  isplitl [A0 A1 A2 A3 A4]
  · isplitl [A0]; · iexact A0
    isplitl [A1]; · iexact A1
    isplitl [A2]; · iexact A2
    isplitl [A3]; · iexact A3
    iexact A4
  isplitl [HS]; · iexact HS
  isplitl [HX]; · iexact HX
  isplitl [Hr] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) others (V₂ m c) ∗ Pipeline.ownSems0 ownS c ∗ Yk c) := by
  show leaving m c ⊢ iprop(_ ∗ _ ∗ _ ∗ zeroed c ∗ _)
  rw [scratch_eq, others_after, others_before]
  unfold leaving args aside
  iintro ⟨⟨A0, A1, A2, A3, A4⟩, HS, Hz, Hb, Hr, Hp⟩
  isplitl [HS]; · iexact HS
  isplitl [Hp]; · iexact Hp
  isplitl [A0 A1 A2 A3 A4 Hr]
  · isplitl [A0]; · iexact A0
    isplitl [A1]; · iexact A1
    isplitl [A2]; · iexact A2
    isplitl [A3]; · iexact A3
    isplitl [A4]; · iexact A4
    iexact Hr
  isplitl [Hz] <;> iassumption

theorem owed_first (c : Dev nD) : (pdats (F := F) m 0 c).owed 0 = owedAll c := rfl
theorem owed_end (c : Dev nD) : (pdats (F := F) m 0 c).owed (Fin.last _) = 0 := rfl

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  match t with
  | ⟨0, _⟩ => exact owedAll_pos (c := c) h
  | ⟨_ + 1, _⟩ => exact absurd h (Nat.lt_irrefl 0)

theorem stage_level (c : Dev nD) : ∀ (w : Fin 1) (s : Fin (spec0 w).nbuf), lv ((c : Thread nD τ), .dma ((spec0 w).sem s)) () ≤ 0 := by
  have h2 : ∀ (w : Fin 1) (s : Fin (spec0 w).nbuf), whichOwn (.dma ((spec0 w).sem s)) = none := by decide +kernel
  intro w s
  dsimp only [lv]
  rw [if_neg (fun h => by cases h), h2]

theorem share_full (c : Dev nD) (w : Fin cfg0.W) : (dat m c).share w = fullShare := by unfold Dat.share; split <;> rfl

theorem arr_before (c : Dev nD) : ∀ w : Fin 1, (pdats m 0 c).arrAt w 0 = V₁ m c (Proc.devRef .tc (Pipeline.arrRef spec0 w))
  | 0 => rfl
theorem arr_after (c : Dev nD) : ∀ w : Fin 1, (pdats m 0 c).arrAt w cfg0.N = V₂ m c (Proc.devRef .tc (Pipeline.arrRef spec0 w))
  | 0 => (array_eq m c).trans (V₂_v1 m c).symm

set_option backward.isDefEq.respectTransparency.types false in
def kernel : ℝ𝕊 0 :=
  Pipeline.RegionSeg.ofTalk (pcfgs (F := F)) adm (pdats m) () defs₀ 𝒱₀ L lv 0 ownS ownFacts
    others others (Finset.Subset.refl _) launch0.toP rfl (fun c => (body_obligation m c).loose)
    (fun _ => 0) owedAll (fun c => (owed_first m c).trans (zero_add _).symm) (owed_end m) (fun _ => rfl) (share_full m)
    (V₁ m) (V₂ m) (fun _ b hb => absurd hb (by rw [Finset.sdiff_self]; exact Finset.notMem_empty b))
    (Tk m) Yk (Xk m) Yk (opening m) (entry m) (leave m)
    (fun c => by iintro H; imodintro; iexact H)
    (fun _ => 0)
    ⟨fun c w s => by rw [L_tc]; exact Finset.mem_singleton_self _, stage_level, owed_above m⟩
    (fun _ => iprop(emp))
    (arr_before m) (arr_after m)

end Cert.KernelIdeal.Mesh

end
-- ==== Proof.Mesh.Launch.lean ====
/- The program's run on the eight devices, from the launch to its end. -/
module

public import proofs.«01_k».proof.Proof.Mesh.Segment

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## All of a device's buffers -/

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c.tc : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The kernel's result and the others are the whole. -/
theorem held_bufs (c : Dev nD) (V : Valuation τ sig (Elt F)) : (StableHlo.held (c.tc : Thread nD τ) bufs V : sProp 𝕄)
    = iprop(StableHlo.held (c.tc : Thread nD τ) (Pipeline.arrRefs (τ := τ) spec0) V ∗ StableHlo.held (c.tc : Thread nD τ) others V) := by
  rw [show bufs = insert (Proc.devRef .tc main_v1) others from by decide +kernel,
    show Pipeline.arrRefs (τ := τ) spec0 = {Proc.devRef .tc main_v1} from by decide +kernel]
  unfold StableHlo.held
  rw [bigSep_add (by decide +kernel), BI.bigSep_singleton]

/-! ## The program as its two segments -/

/-- A device's buffers when the program ends. -/
def V₃ (c : Dev nD) : Valuation τ sig (Elt F) := StableHlo.after hostOps1 (V₂ m c)

abbrev owesNone (c : Dev nD) : sProp 𝕄 := iprop(∃ W, owes (c.tc : Thread nD τ) (0 : CellTallies nD τ sig Unit) W)

theorem host_bufs : ∀ op ∈ (hostOps1 : List (HloOp τ sig (Elt F))), op.bufs ⊆ bufs := by
  intro op hop
  obtain rfl := List.mem_singleton.mp hop
  intro b hb
  rw [StableHlo.reshape_bufs] at hb
  rcases Finset.mem_insert.mp hb with rfl | hb
  · exact (by decide +kernel : Proc.devRef (τ := τ) .tc main_v1 ∈ bufs)
  · rw [Finset.mem_singleton.mp hb]
    exact (by decide +kernel : Proc.devRef (τ := τ) .tc main_v2 ∈ bufs)

def hostSeg : Pipeline.HostSeg (Ix := Unit) (Name := ℕ) (U := UU) (Lvl := ℕ) (pcfgs (F := F)) defs₀ 𝒱₀ L lv :=
  Pipeline.HostSeg.ofOps _ _ _ _ _ bufs hostOps1 host_bufs
    (fun op hop => by obtain rfl := List.mem_singleton.mp hop; rfl)
    (V₂ m) (fun c => iprop(Yk c ∗ owesNone c))

def segs : List (Pipeline.Seg (pcfgs (F := F)) adm (pdats m) () defs₀ 𝒱₀ L lv) := [.region (kernel m), .host (hostSeg m)]

theorem main_eq (c : Dev nD) : main (F := F) c = Pipeline.Seg.run (segs m) :=
  main_segs adm (pdats m) () 𝒱₀ L lv (hostSeg m) (kernel m) rfl c

/-- The state a device starts in. -/
abbrev T₀ (c : Dev nD) : sProp 𝕄 := iprop(StableHlo.held (c.tc : Thread nD τ) bufs (V₁ m c) ∗ Tk m c
  ∗ (∃ r, prngReg c r) ∗ ∃ W, owes (c.tc : Thread nD τ) (owedAll c) W)
/-- And ends in. -/
abbrev Tₙ (c : Dev nD) : sProp 𝕄 := iprop(StableHlo.held (c.tc : Thread nD τ) bufs (V₃ m c) ∗ Yk c)

theorem kernel_pre (c : Dev nD) : T₀ m c ⊢ (kernel m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c.tc : Thread nD τ) (0 + owedAll c) Wd)
  unfold T₀
  rw [held_bufs, zero_add]
  iintro ⟨⟨H1, Ho⟩, HT, Hp, HO⟩
  isplitl [H1]; · iexact H1
  isplitl [Hp]; · iexact Hp
  isplitl [Ho]
  · isplitl [Ho]; · iexact Ho
    iempintro
  isplitl [HT] <;> iassumption

theorem kernel_post (c : Dev nD) : (kernel m).post c ⊢ (hostSeg m).pre c := by
  show iprop(StableHlo.held (c.tc : Thread nD τ) (Pipeline.arrRefs (τ := τ) spec0) (V₂ m c) ∗ (∃ r, prngReg c r)
      ∗ (StableHlo.held (c.tc : Thread nD τ) others (V₂ m c) ∗ emp) ∗ Yk c ∗ owesNone c)
    ⊢ iprop(StableHlo.held (c.tc : Thread nD τ) bufs (V₂ m c) ∗ Yk c ∗ owesNone c)
  rw [held_bufs]
  iintro ⟨H1, -, ⟨Ho, -⟩, HY, HO⟩
  isplitl [H1 Ho]
  · isplitl [H1] <;> iassumption
  isplitl [HY] <;> iassumption

theorem host_post (c : Dev nD) : (hostSeg m).post c ⊢ iprop(Tₙ m c ∗ owesNone c) := by
  show iprop(StableHlo.held (c.tc : Thread nD τ) bufs (V₃ m c) ∗ Yk c ∗ owesNone c) ⊢ _
  iintro ⟨Hh, HY, HO⟩
  isplitr [HO]
  · isplitl [Hh] <;> iassumption
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells tokens)

/-- The protocol's ghost state. -/
abbrev ghost : sProp 𝕄 := BI.own (ER (launchOf barCells ownCells tokens))

/-- All of it handed to device 0. -/
def G (c : Dev nD) : sProp 𝕄 := if c = 0 then ghost else iprop(emp)

theorem G_all : bigSep Finset.univ (G (F := F)) = ghost := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What a device holds besides the protocol's state. -/
def bundle (c : Dev nD) : sProp 𝕄 := iprop(StableHlo.held (c.tc : Thread nD τ) bufs (V₁ m c) ∗ credits c
  ∗ owes (c.tc : Thread nD τ) (owedAll c) ∅ ∗ ∃ r, prngReg c r)

theorem T₀_intro (K : GSem nD τ sig → ℕ) (c : Dev nD) : iprop(ctx m K ∗ (dealt c ∗ bundle m c)) ⊢ T₀ m c := by
  unfold bundle T₀ Tk
  iintro ⟨#Hc, Hd, Hh, Hcr, HO, Hp⟩
  isplitl [Hh]; · iexact Hh
  isplitl [Hd Hcr]
  · isplitr; · iexists K; iexact Hc
    isplitl [Hd] <;> iassumption
  isplitl [Hp]; · iexact Hp
  iexists ∅; iexact HO

theorem deal : iprop(bigSep barCells (fun g => (atPos ER g 0 ∅ 0 : sProp 𝕄)) ∗ bigSep ownCells (fun g => (openTok ER g : sProp 𝕄))
      ∗ bigSep tokens (fun x => (dutyTok ER x.1 x.2.1 x.2.2 : sProp 𝕄)))
    ⊢ bigSep Finset.univ fun c : Dev nD => dealt c := by
  rw [raises_eq, bigSep_map, bigSep_map, bigSep_univ_prod]
  iintro ⟨Hat, Ho, Hr⟩
  unfold dealt
  iapply Smoke.bigSep_pair; isplitl [Hat]; · iexact Hat
  iapply Smoke.bigSep_pair; isplitl [Ho]; · iexact Ho
  iexact Hr

theorem gather (ρ : Dev nD → PrngReg) (c : Dev nD) : iprop(unscopedBufs c (fun b => m ((c.tc : Thread nD τ).loc b)) ∗ unscopedSems0 c
      ∗ owes (c.tc : Thread nD τ) (owedAll c) ∅ ∗ Pipeline.launchCred owedAll c ∗ prngReg c (ρ c) ∗ G c)
    ⊢ (iprop(bundle m c ∗ (semVal (barCell c) 0 ∗ G c)) : sProp 𝕄) := by
  rw [show unscopedBufs c (fun b => m ((c.tc : Thread nD τ).loc b)) = StableHlo.held (c.tc : Thread nD τ) bufs (V₁ m c) from unscopedBufs_held c (V₁ m c),
    unscopedSems0_eq]
  unfold bundle
  iintro ⟨Hh, Hus, HO, Hcr, Hp, HG⟩
  ihave Hc := (credits_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem gather_all (ρ : Dev nD → PrngReg) :
    (bigSep Finset.univ fun c : Dev nD => iprop(unscopedBufs c (fun b => m ((c.tc : Thread nD τ).loc b)) ∗ unscopedSems0 c
      ∗ owes (c.tc : Thread nD τ) (owedAll c) ∅ ∗ Pipeline.launchCred owedAll c ∗ prngReg c (ρ c) ∗ G c))
    ⊢ (bigSep Finset.univ fun c : Dev nD => iprop(bundle m c ∗ (semVal (barCell c) 0 ∗ G c)) : sProp 𝕄) :=
  bigSep_mono fun c _ => gather m ρ c

theorem init (ρ : Dev nD → PrngReg) :
    iprop((bigSep Finset.univ fun c : Dev nD => iprop(unscopedBufs c (fun b => m ((c.tc : Thread nD τ).loc b)) ∗ unscopedSems0 c
          ∗ owes (c.tc : Thread nD τ) (owedAll c) ∅ ∗ Pipeline.launchCred owedAll c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  iintro ⟨H, #Hlev⟩
  ihave H' := (gather_all m ρ) $$ H
  ihave H2 := Smoke.bigSep_unpair $$ H'; icases H2 with ⟨HB, H3⟩
  ihave H4 := Smoke.bigSep_unpair $$ H3; icases H4 with ⟨Hv, HG⟩
  ihave Hu := (Entails.of_eq (G_all (F := F))) $$ HG
  imod (Rounds.fund_launch ER (sched m) disjoint_cells (fun g _ h => h) tokens) $$ [Hv Hu] with ⟨%κ, -, #Hinv, #Hr, Hat, Hopen, Htok⟩
  · isplitl [Hv]
    · iapply hv $$ Hv
    · iexact Hu
  imodintro
  iapply (bigSep_with_persistent (R := ctx m κ) (Φ := fun c => iprop(dealt c ∗ bundle m c)) fun c _ => T₀_intro m κ c)
  isplitr
  · unfold ctx
    isplitr; · iexact Hinv
    isplitr; · iexact Hr
    iexact Hlev
  iapply Smoke.bigSep_pair
  isplitr [HB]
  · iapply deal
    isplitl [Hat]; · iexact Hat
    isplitl [Hopen]; · iexact Hopen
    iexact Htok
  · iexact HB

/-! ## The run -/

theorem unscoped_eq : ∀ sm : SemLoc sig, sm.isScoped .tc = false → sm = .reg barS := by decide +kernel

theorem V₃_ne (c : Dev nD) {r : Ref sig .tc} (h : r ≠ main_v2) (h' : r ≠ main_v1) : V₃ m c (Proc.devRef .tc r) = m ((c : Dev nD), Proc.devRef .tc r) := by
  unfold V₃
  rw [StableHlo.after_cons, StableHlo.after_nil, StableHlo.reshape_result_ne _ _ _ _ _ _ _ h,
    V₂_ne m c fun h1 => h' (Proc.devRef_injective .tc h1)]
  rfl

/-- The program's result: the kernel's, cut into its two batches. -/
def resultOf (c : Dev nD) : Vec F S2x256x768 .f32 := shapeCast S2x256x768 (outOf m c) shapeCasts_S512x768_S2x256x768

theorem V₃_v2 (c : Dev nD) : V₃ m c (Proc.devRef .tc main_v2) = resultOf m c := by
  unfold V₃
  rw [StableHlo.after_cons, StableHlo.after_nil, StableHlo.reshape_result, V₂_v1]
  rfl

theorem held_all (c : Dev nD) (V : Valuation τ sig (Elt F)) : (StableHlo.held (c.tc : Thread nD τ) bufs V : sProp 𝕄)
    = iprop(StableHlo.held (c.tc : Thread nD τ) (Pipeline.arrRefs (τ := τ) spec0) V
      ∗ held c main_arg0 (V (Proc.devRef .tc main_arg0)) ∗ held c main_arg1 (V (Proc.devRef .tc main_arg1))
      ∗ held c main_arg2 (V (Proc.devRef .tc main_arg2)) ∗ held c main_arg3 (V (Proc.devRef .tc main_arg3))
      ∗ held c main_arg4 (V (Proc.devRef .tc main_arg4)) ∗ held c main_v2 (V (Proc.devRef .tc main_v2))) := by
  rw [held_bufs, held_others]

set_option backward.isDefEq.respectTransparency.types false in
/-- Every run from zero counters ends: the arguments as they were, the result what was computed, the counters at zero. -/
theorem run_main (ρ : Dev nD → PrngReg) : θ_run defs (onTc (τ := τ) (main (F := F))) ⟨m, fun _ => 0, ρ⟩
    (fun r => ((∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) ∧ ∀ c : Dev nD, r.2.mem ((c.tc : Thread nD τ).loc main_v2) = resultOf m c) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owedAll) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => kernel_pre m c, fun c => kernel_post m c, fun c => host_post m c⟩)
    (hinit := init m ρ)
    (QY := fun c s => (s.mem ((c.tc : Thread nD τ).loc main_arg0) = V₃ m c (Proc.devRef .tc main_arg0)
        ∧ s.mem ((c.tc : Thread nD τ).loc main_arg1) = V₃ m c (Proc.devRef .tc main_arg1)
        ∧ s.mem ((c.tc : Thread nD τ).loc main_arg2) = V₃ m c (Proc.devRef .tc main_arg2)
        ∧ s.mem ((c.tc : Thread nD τ).loc main_arg3) = V₃ m c (Proc.devRef .tc main_arg3)
        ∧ s.mem ((c.tc : Thread nD τ).loc main_arg4) = V₃ m c (Proc.devRef .tc main_arg4)
        ∧ s.mem ((c.tc : Thread nD τ).loc main_v2) = V₃ m c (Proc.devRef .tc main_v2)) ∧ s.sem (barCell c) = 0)
    (hfin := fun c s' => by
      dsimp only [Tₙ]; rw [held_all]; unfold Yk
      iintro ⟨⟨⟨-, H0, H1, H2, H3, H4, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2,
          Buf.eq_of_forall_mem_univ h3, Buf.eq_of_forall_mem_univ h4, Buf.eq_of_forall_mem_univ h5⟩, by simpa using hb⟩
      iexact HSI)
    (hQ := fun s h hs => ⟨⟨fun c => by
        obtain ⟨⟨h0, h1, h2, h3, h4, -⟩, -⟩ := h c
        exact ⟨h0.trans (V₃_ne m c (by decide) (by decide)), h1.trans (V₃_ne m c (by decide) (by decide)),
          h2.trans (V₃_ne m c (by decide) (by decide)), h3.trans (V₃_ne m c (by decide) (by decide)),
          h4.trans (V₃_ne m c (by decide) (by decide))⟩,
      sem_eq_zero hs fun c sm hsm => by
        obtain rfl := unscoped_eq sm hsm
        exact (h c).2⟩, fun c => (h c).1.2.2.2.2.2.trans (V₃_v2 m c)⟩)

end Cert.KernelIdeal.Mesh

end
-- ==== Proof.Value.Spec.lean ====
/- One head's attention over the extended reals, as both programs come to compute it. -/
module

public import Idealize.ShloMosaic.PureOps.Ideal

@[expose] public section

noncomputable section

namespace Cert.Value

open Idealize.ShloMosaic

/-- A row of a batch times one head's columns of a projection. -/
def project (x : Fin 256 → Fin 768 → EReal) (w : Fin 768 → Fin 64 → EReal) (i : Fin 256) (d : Fin 64) : EReal := ∑ k, x i k * w k d

/-- The scaled product of query `i` with key `j`. -/
def score (x : Fin 256 → Fin 768 → EReal) (wq wk : Fin 768 → Fin 64 → EReal) (i j : Fin 256) : EReal :=
  (∑ d, project x wq i d * project x wk j d) * Ideal.ofBits .f32 0x3E000000#32

/-- The mean of the values with weights the exponentials of the scores. -/
def attend (x : Fin 256 → Fin 768 → EReal) (wq wk wv : Fin 768 → Fin 64 → EReal) (i : Fin 256) (d : Fin 64) : EReal :=
  Ideal.div (∑ j, Ideal.exp (score x wq wk i j) * project x wv j d) (∑ j, Ideal.exp (score x wq wk i j))

end Cert.Value

end
-- ==== Proof.Value.Head.lean ====
/- What the kernel stores of attention, read at an element over the extended reals. -/
module

public import proofs.«01_k».proof.Proof.Mesh.Contents
public import proofs.«01_k».proof.Proof.Value.Spec
public import Idealize.ShloMosaic.Lib.Pointwise

@[expose] public section

noncomputable section

namespace Cert.Value

open Idealize.ShloMosaic
open Cert.KernelIdeal Cert.KernelIdeal.Gen

theorem project_at (x : Vec Ideal S2x256x768 .f32) (w : Vec Ideal S768x512 .f32) (b : Fin 2) (i : Fin 256) (j : Fin 512) :
    Mesh.project x w b (ix2 i j) = ∑ k : Fin 768, x (ix3 b i k) * w (ix2 k j) := by
  pointwise [Mesh.project, Mesh.batchRows]

theorem scores_at (q k : FVec Ideal S256x512 .f32) (h : Fin 8) (i j : Fin 256) :
    Mesh.scores q k h (ix2 i j) = ∑ d : Fin 64, q (ix2 i ⟨64 * h.val + d.val, by omega⟩) * k (ix2 j ⟨64 * h.val + d.val, by omega⟩) := by
  pointwise [Mesh.scores, Mesh.headCols]

theorem expScores_at (q k : FVec Ideal S256x512 .f32) (h : Fin 8) (i j : Fin 256) :
    Mesh.expScores q k (ix2 i ⟨256 * h.val + j.val, by omega⟩) = Ideal.exp (Mesh.scores q k h (ix2 i j) * Ideal.ofBits .f32 0x3E000000#32) := by
  pointwise [Mesh.expScores]
  refine congrArg (fun z => Ideal.exp (z * Ideal.ofBits .f32 0x3E000000#32)) ?_
  have hj := j.isLt
  fin_vals h with hk
  all_goals
    simp only [hk]
    repeat rw [dif_neg (by omega)]
    try rw [dif_pos (by omega)]
    exact congr (congrArg (Mesh.scores q k) (Fin.ext hk.symm)) (congrArg (ix2 i) (Fin.ext (by dsimp only; omega)))

theorem headRows_at (p : FVec Ideal S256x2048 .f32) (v : FVec Ideal S256x512 .f32) (h : Fin 8) (i : Fin 256) (d : Fin 64) :
    Mesh.headRows p v h (ix2 i d) = Ideal.div
      (∑ j : Fin 256, p (ix2 i ⟨256 * h.val + j.val, by omega⟩) * v (ix2 j ⟨64 * h.val + d.val, by omega⟩))
      (∑ j : Fin 256, p (ix2 i ⟨256 * h.val + j.val, by omega⟩)) := by
  pointwise [Mesh.headRows, Mesh.weights, Mesh.headCols]

/-- A head of the kernel's attention is that head's attention. -/
theorem headOf_at (x : Vec Ideal S2x256x768 .f32) (wq wk wv : Vec Ideal S768x512 .f32) (b : Fin 2) (h : Fin 8) (i : Fin 256) (d : Fin 64) :
    Mesh.headOf x wq wk wv b h (ix2 i d) = attend (fun r c => x (ix3 b r c)) (fun c e => wq (ix2 c ⟨64 * h.val + e.val, by omega⟩))
      (fun c e => wk (ix2 c ⟨64 * h.val + e.val, by omega⟩)) (fun c e => wv (ix2 c ⟨64 * h.val + e.val, by omega⟩)) i d := by
  unfold Mesh.headOf
  rw [headRows_at]
  simp only [expScores_at, scores_at, project_at]
  rfl

/-- The stored array: element `(i, k)` is of batch `i / 256` and head `k / 64`. -/
theorem attnOf_at (x : Vec Ideal S2x256x768 .f32) (wq wk wv : Vec Ideal S768x512 .f32) (i k : Fin 512) :
    Mesh.attnOf x wq wk wv (ix2 i k) = attend (fun r c => x (ix3 ⟨i.val / 256, by omega⟩ r c))
      (fun c e => wq (ix2 c ⟨64 * (k.val / 64) + e.val, by omega⟩)) (fun c e => wk (ix2 c ⟨64 * (k.val / 64) + e.val, by omega⟩))
      (fun c e => wv (ix2 c ⟨64 * (k.val / 64) + e.val, by omega⟩)) ⟨i.val % 256, by omega⟩ ⟨k.val % 64, by omega⟩ := by
  refine Eq.trans (congrArg (Mesh.headOf x wq wk wv ⟨i.val / 256, by omega⟩ ⟨k.val / 64, by omega⟩) ?_)
    (headOf_at x wq wk wv ⟨i.val / 256, by omega⟩ ⟨k.val / 64, by omega⟩ ⟨i.val % 256, by omega⟩ ⟨k.val % 64, by omega⟩)
  funext a
  match a with
  | ⟨0, _⟩ => rfl
  | ⟨1, _⟩ => rfl

/-- A tile of one device's product: a row block of its attention times its rows of the output weights. -/
theorem tileOf_at (wo : Vec Ideal S512x768 .f32) (a : Vec Ideal S512x512 .bf16) (t : Fin 12) (i : Fin 128) (j : Fin 256) :
    Mesh.tileOf wo (Mesh.rowsOf a (Mesh.rowOf t)) t (ix2 i j)
      = ∑ k : Fin 512, a (ix2 ⟨128 * (t.val / 3) + i.val, by omega⟩ k) * wo (ix2 k ⟨256 * (t.val % 3) + j.val, by omega⟩) := by
  pointwise [Mesh.tileOf, Mesh.rowsOf]
  refine Finset.sum_congr rfl fun k _ => congrArg (· * _) (congrArg a ?_)
  funext e
  apply Fin.ext
  match e with
  | 0 => show 128 * (t.val / 3) + 1 * i.val = 128 * (t.val / 3) + i.val; omega
  | 1 => show 0 + 1 * k.val = k.val; omega

end Cert.Value

end
-- ==== Proof.Value.Total.lean ====
/- Three rounds of exchange in three independent directions add up all eight devices' tiles; the kernel's result at an element. -/
module

public import proofs.«01_k».proof.Proof.Value.Head
public import proofs.«01_k».proof.Proof.Mesh.Launch

@[expose] public section

noncomputable section

namespace Cert.Value

open Idealize.ShloMosaic Idealize.ShloMosaic.TcCoe Idealize.SL.Sem
open Cert.KernelIdeal Cert.KernelIdeal.Gen

variable (m : (ℓ : Loc nD τ sig) → Buf (Elt Ideal) ℓ)

theorem plus_at (a b : Vec Ideal S128x256 .bf16) (i : Fin 128) (j : Fin 256) : Mesh.plus a b (ix2 i j) = a (ix2 i j) + b (ix2 i j) := by
  pointwise [Mesh.plus]

/-- The devices whose tiles have reached a device after `w` rounds, in the order they are added. -/
def reached : ℕ → Dev nD → Fin 12 → List (Dev nD)
  | 0, c, _ => [c]
  | w + 1, c, t => reached w c t ++ reached w (Mesh.peer (Mesh.dirN w t) c) t

/-- After three rounds each device occurs once. -/
theorem reached_all : ∀ (t : Fin 12) (c : Dev nD), (reached 3 c t).Perm (List.finRange 8) := by decide +kernel

theorem tileAt_at (w : ℕ) (c : Dev nD) (t : Fin 12) (i : Fin 128) (j : Fin 256) :
    Mesh.tileAt m w c t (ix2 i j) = ((reached w c t).map fun d => Mesh.tileAt m 0 d t (ix2 i j)).sum := by
  induction w generalizing c with
  | zero => simp [reached]
  | succ w ih =>
    rw [reached, List.map_append, List.sum_append, ← ih, ← ih]
    exact plus_at _ _ i j

/-- A finished tile: the sum of the devices' tiles. -/
theorem tile_total (c : Dev nD) (t : Fin 12) (i : Fin 128) (j : Fin 256) :
    Mesh.tileAt m 3 c t (ix2 i j) = ∑ d : Dev nD, Mesh.tileAt m 0 d t (ix2 i j) := by
  rw [tileAt_at, ((reached_all t c).map _).sum_eq, Fin.sum_univ_def]

/-- Every device's result at row `i` of batch `b` and column `j`: over all devices and all columns `k` of their attention. -/
theorem result_at (c : Dev nD) (b : Fin 2) (i : Fin 256) (j : Fin 768) :
    Mesh.resultOf m c (ix3 b i j) = ∑ d : Dev nD, ∑ k : Fin 512,
      Mesh.attnAt m d (ix2 ⟨256 * b.val + i.val, by omega⟩ k) * Mesh.argO m d (ix2 k j) := by
  have h : Mesh.resultOf m c (ix3 b i j) = Mesh.outOf m c (ix2 ⟨256 * b.val + i.val, by omega⟩ j) := by
    pointwise [Mesh.resultOf]
    congr 3
    omega
  rw [h]
  have hr : (256 * b.val + i.val) % 128 < 128 := by omega
  have hc : j.val % 256 < 256 := by omega
  have e : Mesh.outOf m c (ix2 ⟨256 * b.val + i.val, by omega⟩ j) =
      Mesh.tileAt m 3 c ⟨3 * ((256 * b.val + i.val) / 128) + j.val / 256, by omega⟩
        (ix2 ⟨(256 * b.val + i.val) % 128, hr⟩ ⟨j.val % 256, hc⟩) := by
    rfl
  rw [e, tile_total]
  refine Finset.sum_congr rfl fun d _ => ?_
  refine (tileOf_at _ _ _ _ _).trans (Finset.sum_congr rfl fun k _ => ?_)
  congr 3 <;> simp only [] <;> congr 1 <;> omega

end Cert.Value

end
-- ==== Proof.Value.Softmax.lean ====
/- A quotient of weighted sums does not change when every weight is divided by one positive real. -/
module

public import Idealize.ShloMosaic.PureOps.Ideal
public import Idealize.ShloMosaic.PureOps.Ideal.Laws

@[expose] public section

noncomputable section

namespace Cert.Value

open Idealize.ShloMosaic

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Sums and products of reals are real. -/
theorem real_sum {ι : Type} (s : Finset ι) {f : ι → EReal} (h : ∀ i, ∃ r : ℝ, f i = (r : EReal)) : ∃ r : ℝ, ∑ i ∈ s, f i = (r : EReal) := by
  choose g hg using h
  exact ⟨∑ i ∈ s, g i, by simp only [hg]; exact (coe_sum s g).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy
  exact ⟨a * b, (EReal.coe_mul a b).symm⟩

/-- A factor that is a real and not negative leaves a sum of extended reals. -/
theorem sum_mul_real {ι : Type} (s : Finset ι) (f : ι → EReal) {e : ℝ} (he : 0 ≤ e) : (∑ i ∈ s, f i * (e : EReal)) = (∑ i ∈ s, f i) * (e : EReal) := by
  classical
  induction s using Finset.induction_on with
  | empty => simp
  | insert a s ha ih =>
    rw [Finset.sum_insert ha, Finset.sum_insert ha, ih, EReal.right_distrib_of_nonneg_of_ne_top (EReal.coe_nonneg.mpr he) (EReal.coe_ne_top _)]

/-- The largest of finitely many reals, started at −∞. -/
theorem real_max {n : Nat} (s : Fin (n + 1) → ℝ) : ∃ M : ℝ, (Finset.univ.fold max (⊥ : EReal) fun j => (s j : EReal)) = (M : EReal) := by
  have h : ∀ t : Finset (Fin (n + 1)), t.fold max (⊥ : EReal) (fun j => (s j : EReal)) = ⊥
      ∨ ∃ M : ℝ, t.fold max (⊥ : EReal) (fun j => (s j : EReal)) = (M : EReal) := by
    intro t
    induction t using Finset.induction_on with
    | empty => exact .inl rfl
    | insert a t ha ih =>
      rw [Finset.fold_insert ha]
      rcases ih with h | ⟨M, h⟩ <;> rw [h]
      · exact .inr ⟨s a, max_eq_left bot_le⟩
      · exact .inr ⟨max (s a) M, (EReal.coe_strictMono.monotone.map_max).symm⟩
  rcases h Finset.univ with h | h
  · exfalso
    have : ((s 0 : ℝ) : EReal) ≤ ⊥ := by
      exact ((Finset.fold_max_le _).mp h.le).2 0 (Finset.mem_univ _)
    exact absurd (le_bot_iff.mp this) (EReal.coe_ne_bot _)
  · exact h

/-- The weighted mean with weights `exp (s j)` is the one with weights `exp (s j - M)`, for real `s` and `M` and any values. -/
theorem mean_shift {n : Nat} (s : Fin (n + 1) → ℝ) (M : ℝ) (v : Fin (n + 1) → EReal) :
    Ideal.div (∑ j, Ideal.exp ((s j : EReal) - (M : EReal)) * v j) (∑ j, Ideal.exp ((s j : EReal) - (M : EReal)))
      = Ideal.div (∑ j, Ideal.exp (s j : EReal) * v j) (∑ j, Ideal.exp (s j : EReal)) := by
  have hw : ∀ j, Ideal.exp ((s j : EReal) - (M : EReal)) = Ideal.exp (s j : EReal) * ((Real.exp (-M) : ℝ) : EReal) := fun j => by
    rw [← EReal.coe_sub, Ideal.exp_coe, Ideal.exp_coe, ← EReal.coe_mul, ← Real.exp_add, sub_eq_add_neg]
  have hsum : ∀ f : Fin (n + 1) → ℝ, (∑ j, Ideal.exp (f j : EReal)) = ((∑ j, Real.exp (f j) : ℝ) : EReal) := fun f => by
    simp only [Ideal.exp_coe]; exact (coe_sum Finset.univ fun j => Real.exp (f j)).symm
  have hL : (∑ j, Real.exp (s j)) ≠ 0 := (Finset.sum_pos (fun j _ => Real.exp_pos _) Finset.univ_nonempty).ne'
  have hE : Real.exp (-M) ≠ 0 := (Real.exp_pos _).ne'
  simp only [hw, mul_right_comm _ ((Real.exp (-M) : ℝ) : EReal)]
  rw [sum_mul_real _ _ (Real.exp_pos _).le, sum_mul_real _ _ (Real.exp_pos _).le, hsum, ← EReal.coe_mul, Ideal.div_coe (mul_ne_zero hL hE), Ideal.div_coe hL, mul_assoc, ← EReal.coe_mul]
  congr 2
  field_simp

end Cert.Value

end
-- ==== Proof.Value.Reference.lean ====
/- What the reference computes, an element at a time: per head the mean of the values, with the scores' maximum taken off first. -/
module

public import proofs.«01_k».proof.Proof.Value.Spec
public import proofs.«01_k».proof.Proof.Value.Softmax
public import proofs.«01_k».proof.Proof.Gen.ReferenceIdeal.Run
public import Idealize.ShloMosaic.Lib.Pointwise

@[expose] public section

noncomputable section

namespace Cert.Value

open Idealize.ShloMosaic Idealize.ShloMosaic.TcCoe Idealize.SL.Sem
open Cert.ReferenceIdeal Cert.ReferenceIdeal.Gen

/-- The word of −∞ and its value. -/
theorem ofBits_bot : Ideal.ofBits .f32 0xFF800000#32 = ⊥ := by
  simp [Ideal.ofBits, Ideal.ieee]

/-- The word of +∞ and its value. -/
theorem ofBits_top : Ideal.ofBits .f32 0x7F800000#32 = ⊤ := by
  simp [Ideal.ofBits, Ideal.ieee]

/-- The word of an eighth: a real. -/
theorem ofBits_eighth : ∃ r : ℝ, Ideal.ofBits .f32 0x3E000000#32 = (r : EReal) := by
  simp [Ideal.ofBits, Ideal.ieee, -EReal.coe_mul]

/-- A projection, its columns split into heads. -/
def heads (x : FVec Ideal S2x256x768 .f32) (w : FVec Ideal S768x4096 .f32) : FVec Ideal S2x256x64x64 .f32 :=
  shapeCast _ (Host.dotGeneral dot_S2x256x768_S768x4096_S2x256x4096_2_0_01_1_n_n none x w) shapeCasts_S2x256x4096_S2x256x64x64

def scaled (q k : FVec Ideal S2x256x64x64 .f32) : FVec Ideal S2x64x256x256 .f32 :=
  mulf (Host.dotGeneral dot_S2x256x64x64_S2x256x64x64_S2x64x256x256_3_3_1_1_02_02 none q k)
    (broadcastInDim S2x64x256x256 ![] bcast_S_S2x64x256x256 (constant S_ .f32 0x3E000000#32))

/-- Each query's largest score. -/
def rowMax (s : FVec Ideal S2x64x256x256 .f32) : FVec Ideal S2x64x256 .f32 :=
  Host.reduce FloatOps.maximumf s (constant S_ .f32 0xFF800000#32) reducesTo_S2x64x256x256_S2x64x256_d3 h_S_

/-- The larger of that and the −∞ the running maximum starts from. -/
def largest (r : FVec Ideal S2x64x256 .f32) : FVec Ideal S2x64x256x1 .f32 :=
  maximumf (broadcastInDim S2x64x256x1 ![] bcast_S_S2x64x256x1 (constant S_ .f32 0xFF800000#32))
    (broadcastInDim S2x64x256x1 ![0, 1, 2] bcast_S2x64x256_S2x64x256x1_0_1_2 r)

/-- The factor the empty sums before the one block of keys are carried over by. -/
def carried (t : FVec Ideal S2x64x256x1 .f32) : FVec Ideal S2x64x256x1 .f32 :=
  Host.exp (subf (broadcastInDim S2x64x256x1 ![] bcast_S_S2x64x256x1 (constant S_ .f32 0xFF800000#32)) t)

def weights (s : FVec Ideal S2x64x256x256 .f32) (t : FVec Ideal S2x64x256x1 .f32) : FVec Ideal S2x64x256x256 .f32 :=
  Host.exp (subf s (broadcastInDim S2x64x256x256 ![0, 1, 2, 3] bcast_S2x64x256x1_S2x64x256x256_0_1_2_3 t))

def weighted (v : FVec Ideal S2x256x64x64 .f32) (p : FVec Ideal S2x64x256x256 .f32) (a : FVec Ideal S2x64x256x1 .f32) :
    FVec Ideal S2x256x64x64 .f32 :=
  addf (mulf (broadcastInDim S2x256x64x64 ![] bcast_S_S2x256x64x64 (constant S_ .f32 0x00000000#32))
      (broadcastInDim S2x256x64x64 ![0, 1, 2, 3] bcast_S2x256x64x1_S2x256x64x64_0_1_2_3
        (transpose S2x256x64x1 [0, 2, 1, 3] a transposes_S2x64x256x1_S2x256x64x1_0_2_1_3)))
    (transpose S2x256x64x64 [0, 3, 1, 2] (Host.dotGeneral dot_S2x256x64x64_S2x64x256x256_S2x64x64x256_1_3_3_2_02_01 none v p)
      transposes_S2x64x64x256_S2x256x64x64_0_3_1_2)

def totals (p : FVec Ideal S2x64x256x256 .f32) (a : FVec Ideal S2x64x256x1 .f32) : FVec Ideal S2x256x64x64 .f32 :=
  broadcastInDim S2x256x64x64 ![0, 1, 2, 3] bcast_S2x256x64x1_S2x256x64x64_0_1_2_3
    (transpose S2x256x64x1 [0, 2, 1, 3]
      (addf (mulf (broadcastInDim S2x64x256x1 ![] bcast_S_S2x64x256x1 (constant S_ .f32 0x00000000#32)) a)
        (broadcastInDim S2x64x256x1 ![0, 1, 2] bcast_S2x64x256_S2x64x256x1_0_1_2
          (Host.reduceAdd p (constant S_ .f32 0x00000000#32) reducesTo_S2x64x256x256_S2x64x256_d3 h_S_)))
      transposes_S2x64x256x1_S2x256x64x1_0_2_1_3)

def attended (x : FVec Ideal S2x256x768 .f32) (wq wk wv : FVec Ideal S768x4096 .f32) : FVec Ideal S2x256x64x64 .f32 :=
  let s := scaled (heads x wq) (heads x wk)
  let p := weights s (largest (rowMax s))
  let a := carried (largest (rowMax s))
  Host.divf (weighted (heads x wv) p a) (totals p a)

def merged (a : FVec Ideal S2x256x64x64 .f32) (wo : FVec Ideal S4096x768 .f32) : FVec Ideal S2x256x768 .f32 :=
  Host.dotGeneral dot_S2x256x4096_S4096x768_S2x256x768_2_0_01_1_n_n none (shapeCast _ a shapeCasts_S2x256x64x64_S2x256x4096) wo

variable (m : (ℓ : Loc nD τ sig) → Buf (Elt Ideal) ℓ) (c : Dev nD)

abbrev refX : FVec Ideal S2x256x768 .f32 := m ((c.tc : Thread nD τ).loc main_arg0)
abbrev refQ : FVec Ideal S768x4096 .f32 := m ((c.tc : Thread nD τ).loc main_arg1)
abbrev refK : FVec Ideal S768x4096 .f32 := m ((c.tc : Thread nD τ).loc main_arg2)
abbrev refV : FVec Ideal S768x4096 .f32 := m ((c.tc : Thread nD τ).loc main_arg3)
abbrev refO : FVec Ideal S4096x768 .f32 := m ((c.tc : Thread nD τ).loc main_arg4)

theorem reference_eq :
    Cert.ReferenceIdeal.Value.res_out0 m c = merged (attended (refX m c) (refQ m c) (refK m c) (refV m c)) (refO m c) := rfl

theorem heads_at (x : FVec Ideal S2x256x768 .f32) (w : FVec Ideal S768x4096 .f32) (b : Fin 2) (i : Fin 256) (h d : Fin 64) :
    heads x w (ix4 b i h d) = project (fun r e => x (ix3 b r e)) (fun e f => w (ix2 e ⟨h.val * 64 + f.val, by omega⟩)) i d := by
  pointwise [heads, project]

theorem scaled_at (q k : FVec Ideal S2x256x64x64 .f32) (b : Fin 2) (h : Fin 64) (i j : Fin 256) :
    scaled q k (ix4 b h i j) = (∑ d, q (ix4 b i h d) * k (ix4 b j h d)) * Ideal.ofBits .f32 0x3E000000#32 := by
  pointwise [scaled]

theorem rowMax_at (s : FVec Ideal S2x64x256x256 .f32) (b : Fin 2) (h : Fin 64) (i : Fin 256) :
    rowMax s (ix3 b h i) = Finset.univ.fold max (⊥ : EReal) (fun j => s (ix4 b h i j)) := by
  have hr : S2x64x256x256.Reduces [3] S2x64x256 := by decide
  have e := Host.reduce_eq_fold_single (α := Ideal .f32) FloatOps.maximumf s (constant S_ .f32 0xFF800000#32)
    reducesTo_S2x64x256x256_S2x64x256_d3 hr h_S_ (ix3 b h i)
  rw [rowMax, e]
  have hl : ∀ j : Fin 256, hr.lift (ix3 b h i) j = ix4 b h i j := by
    intro j
    funext a
    apply Fin.ext
    fin_cases a <;> rfl
  have hf : (s ∘ hr.lift (ix3 b h i)) = fun j : Fin 256 => s (ix4 b h i j) := funext fun j => congrArg s (hl j)
  rw [hf]
  exact congrArg (fun z => Finset.univ.fold max z fun j => s (ix4 b h i j)) ofBits_bot

theorem largest_at (r : FVec Ideal S2x64x256 .f32) (b : Fin 2) (h : Fin 64) (i : Fin 256) :
    largest r (ix4 b h i 0) = r (ix3 b h i) := by
  pointwise [largest]
  rw [ofBits_bot, max_eq_right bot_le]

theorem weights_at (s : FVec Ideal S2x64x256x256 .f32) (t : FVec Ideal S2x64x256x1 .f32) (b : Fin 2) (h : Fin 64) (i j : Fin 256) :
    weights s t (ix4 b h i j) = Ideal.exp (s (ix4 b h i j) - t (ix4 b h i 0)) := by
  pointwise [weights]

theorem weighted_at (v : FVec Ideal S2x256x64x64 .f32) (p : FVec Ideal S2x64x256x256 .f32) (a : FVec Ideal S2x64x256x1 .f32)
    (b : Fin 2) (i : Fin 256) (h d : Fin 64) :
    weighted v p a (ix4 b i h d) = ∑ j, p (ix4 b h i j) * v (ix4 b j h d) := by
  pointwise [weighted]
  rw [zero_mul, zero_add]
  exact Finset.sum_congr rfl fun j _ => mul_comm _ _

theorem totals_at (p : FVec Ideal S2x64x256x256 .f32) (a : FVec Ideal S2x64x256x1 .f32)
    (b : Fin 2) (i : Fin 256) (h d : Fin 64) :
    totals p a (ix4 b i h d) = ∑ j, p (ix4 b h i j) := by
  pointwise [totals]
  rw [zero_mul, zero_add]

theorem merged_at (a : FVec Ideal S2x256x64x64 .f32) (wo : FVec Ideal S4096x768 .f32) (b : Fin 2) (i : Fin 256) (j : Fin 768) :
    merged a wo (ix3 b i j) = ∑ k : Fin 4096, a (ix4 b i ⟨k.val / 64, by omega⟩ ⟨k.val % 64, by omega⟩) * wo (ix2 k j) := by
  pointwise [merged]

end Cert.Value

end
-- ==== Proof.Value.Shifted.lean ====
/- Where the inputs of the scores are real, the reference's attention is the mean with unshifted weights. -/
module

public import proofs.«01_k».proof.Proof.Value.Reference

@[expose] public section

noncomputable section

namespace Cert.Value

open Idealize.ShloMosaic Idealize.ShloMosaic.TcCoe Idealize.SL.Sem
open Cert.ReferenceIdeal Cert.ReferenceIdeal.Gen

/-- Every element is a real number. -/
def AllReal {S : Shape} (v : FVec Ideal S .f32) : Prop := ∀ i, ∃ r : ℝ, v i = (r : EReal)

theorem score_real (x : Fin 256 → Fin 768 → EReal) (wq wk : Fin 768 → Fin 64 → EReal) (hx : ∀ r c, ∃ z : ℝ, x r c = (z : EReal))
    (hq : ∀ c d, ∃ z : ℝ, wq c d = (z : EReal)) (hk : ∀ c d, ∃ z : ℝ, wk c d = (z : EReal)) (i j : Fin 256) :
    ∃ z : ℝ, score x wq wk i j = (z : EReal) :=
  real_mul (real_sum _ fun d => real_mul (real_sum _ fun k => real_mul (hx i k) (hq k d)) (real_sum _ fun k => real_mul (hx j k) (hk k d)))
    ofBits_eighth

/-- One batch of the input, and one head's columns of a weight. -/
def batchOf (x : FVec Ideal S2x256x768 .f32) (b : Fin 2) : Fin 256 → Fin 768 → EReal := fun r e => x (ix3 b r e)

def headOf (w : FVec Ideal S768x4096 .f32) (h : Fin 64) : Fin 768 → Fin 64 → EReal := fun e f => w (ix2 e ⟨h.val * 64 + f.val, by omega⟩)

/-- The reference's scores, its maxima and the mean they give. -/
theorem attended_at (x : FVec Ideal S2x256x768 .f32) (wq wk wv : FVec Ideal S768x4096 .f32) (hx : AllReal x) (hq : AllReal wq) (hk : AllReal wk)
    (b : Fin 2) (i : Fin 256) (h d : Fin 64) :
    attended x wq wk wv (ix4 b i h d) = attend (batchOf x b) (headOf wq h) (headOf wk h) (headOf wv h) i d := by
  have hs : ∀ j, scaled (heads x wq) (heads x wk) (ix4 b h i j) = score (batchOf x b) (headOf wq h) (headOf wk h) i j := by
    intro j
    rw [scaled_at]
    simp only [heads_at]
    rfl
  have hr := fun j => score_real (batchOf x b) (headOf wq h) (headOf wk h) (fun r e => hx _) (fun e f => hq _) (fun e f => hk _) i j
  choose s hs' using hr
  obtain ⟨M, hM⟩ := real_max (n := 255) s
  have e : attended x wq wk wv (ix4 b i h d) = Ideal.div
      (∑ j, Ideal.exp ((s j : EReal) - (M : EReal)) * project (batchOf x b) (headOf wv h) j d)
      (∑ j, Ideal.exp ((s j : EReal) - (M : EReal))) := by
    pointwise [attended]
    rw [weighted_at, totals_at]
    simp only [weights_at, largest_at, rowMax_at, hs, hs', heads_at]
    rw [hM]
    rfl
  rw [e, mean_shift (n := 255) s M, attend]
  simp only [hs']

end Cert.Value

end
-- ==== Proof.Value.Equal.lean ====
/- The kernel's result is the reference's: each device's blocks are its heads' columns and rows of the whole weights. -/
module

public import proofs.«01_k».proof.Proof.Value.Total
public import proofs.«01_k».proof.Proof.Value.Shifted
public import Idealize.ShloMosaic.Lib.LayoutAt

@[expose] public section

noncomputable section

namespace Cert.Value

open Idealize.ShloMosaic Idealize.ShloMosaic.TcCoe Idealize.SL.Sem

abbrev ColBlock : Shape := ⟨2, ![768, 512]⟩
abbrev ColWhole : Shape := ⟨2, ![768, 4096]⟩
abbrev RowBlock : Shape := ⟨2, ![512, 768]⟩
abbrev RowWhole : Shape := ⟨2, ![4096, 768]⟩

/-- Block `c` of a weight cut along its columns, and of one cut along its rows. -/
theorem colBlock_at (w : FVec Ideal ColWhole .f32) (c : Fin 8) (e : Fin 768) (f : Fin 512) :
    Layout.block ColBlock ColWhole 1 8 c w (by decide) (ix2 e f) = w (ix2 e ⟨512 * c.val + f.val, by omega⟩) := by
  shard_ext

theorem rowBlock_at (w : FVec Ideal RowWhole .f32) (c : Fin 8) (e : Fin 512) (f : Fin 768) :
    Layout.block RowBlock RowWhole 0 8 c w (by decide) (ix2 e f) = w (ix2 ⟨512 * c.val + e.val, by omega⟩ f) := by
  shard_ext

/-- Every column of the whole weight lies in a device's block, so a whole of real blocks is real. -/
theorem whole_real (w : FVec Ideal ColWhole .f32) (h : ∀ c : Fin 8, AllReal (S := ColBlock) (Layout.block ColBlock ColWhole 1 8 c w (by decide))) :
    AllReal w := by
  intro i
  idx_vars i
  obtain ⟨r, hr⟩ := h ⟨i1.val / 512, by omega⟩ (ix2 i0 ⟨i1.val % 512, by omega⟩)
  rw [colBlock_at] at hr
  refine ⟨r, hr ▸ congrArg (fun z => w (ix2 i0 z)) (Fin.ext ?_)⟩
  exact (Nat.div_add_mod i1.val 512).symm

/-- All columns of all heads: per device, the columns of its heads. -/
theorem sum_columns (f : Fin 4096 → EReal) : ∑ k, f k = ∑ d : Fin 8, ∑ k : Fin 512, f ⟨512 * d.val + k.val, by omega⟩ := by
  rw [← Fintype.sum_prod_type']
  refine (Fintype.sum_equiv (finProdFinEquiv (m := 8) (n := 512)) _ _ fun p => ?_).symm
  congr 1
  exact Fin.ext (Nat.add_comm _ _)

variable (m : (ℓ : Loc KernelIdeal.nD KernelIdeal.τ KernelIdeal.sig) → Buf (Elt Ideal) ℓ)

/-- With the arguments dealt out as the blocks of the whole ones, every device's result is the reference's. -/
theorem result_eq (x : FVec Ideal ReferenceIdeal.S2x256x768 .f32) (wq wk wv : FVec Ideal ColWhole .f32) (wo : FVec Ideal RowWhole .f32)
    (h : ∀ c, KernelIdeal.Mesh.argX m c = x ∧ KernelIdeal.Mesh.argQ m c = Layout.block ColBlock ColWhole 1 8 c wq (by decide)
      ∧ KernelIdeal.Mesh.argK m c = Layout.block ColBlock ColWhole 1 8 c wk (by decide)
      ∧ KernelIdeal.Mesh.argV m c = Layout.block ColBlock ColWhole 1 8 c wv (by decide)
      ∧ KernelIdeal.Mesh.argO m c = Layout.block RowBlock RowWhole 0 8 c wo (by decide))
    (hx : AllReal x) (hq : AllReal wq) (hk : AllReal wk) (c : Dev KernelIdeal.nD) :
    KernelIdeal.Mesh.resultOf m c = merged (attended x wq wk wv) wo := by
  funext p
  idx_vars p
  refine (result_at m c p0 p1 p2).trans ?_
  rw [merged_at, sum_columns]
  refine Finset.sum_congr rfl fun d _ => Finset.sum_congr rfl fun k _ => ?_
  obtain ⟨ex, eq, ek, ev, eo⟩ := h d
  rw [attended_at _ _ _ _ hx hq hk, eo, rowBlock_at]
  congr 1
  refine (attnOf_at _ _ _ _ _ _).trans ?_
  rw [ex, eq, ek, ev]
  simp only [colBlock_at]
  have hd : d.val < 8 := d.isLt
  have hb : (fun r e => x (ix3 ⟨(256 * p0.val + p1.val) / 256, by omega⟩ r e)) = batchOf x p0 :=
    funext fun r => funext fun e => congrArg (fun z => x (ix3 z r e)) (Fin.ext (by simp only []; omega))
  have hh (w : FVec Ideal ColWhole .f32) : (fun e f => w (ix2 e ⟨512 * d.val + (64 * (k.val / 64) + f.val), by omega⟩))
      = headOf w ⟨(512 * d.val + k.val) / 64, by omega⟩ :=
    funext fun e => funext fun f => congrArg (fun z => w (ix2 e z)) (Fin.ext (by simp only []; omega))
  rw [hb, hh, hh, hh]
  congr 1 <;> exact Fin.ext (by simp only []; omega)

end Cert.Value

end
-- ==== Proof.Value.Finite.lean ====
/- The precondition read: on every device the input and the query and key weights hold real numbers only. -/
module

public import proofs.«01_k».proof.Defs
public import proofs.«01_k».proof.Proof.Value.Shifted
public import proofs.«01_k».proof.Proof.Mesh.Launch
public import Idealize.ShloMosaic.Lib.ReduceAll

@[expose] public section

noncomputable section

namespace Cert.Value

open Idealize.ShloMosaic Idealize.ShloMosaic.TcCoe Idealize.SL.Sem

instance preKernel : Cert.Pre_finite_scores_KernelIdeal.Facts where
  bcast_S_S2x256x768 := by decide
  reducesTo_S2x256x768_S_d0_1_2 := by decide
  h_S_ := by decide
  bcast_S_S768x512 := by decide
  reducesTo_S768x512_S_d0_1 := by decide

instance preReference : Cert.Pre_finite_scores_ReferenceIdeal.Facts where
  bcast_S_S2x256x768 := by decide
  reducesTo_S2x256x768_S_d0_1_2 := by decide
  h_S_ := by decide
  bcast_S_S768x4096 := by decide
  reducesTo_S768x4096_S_d0_1 := by decide

/-- An absolute value below +∞ is that of a real. -/
theorem real_of_lt {z : EReal} (h : Ideal.cmp .olt (max z (-z)) (Ideal.ofBits .f32 0x7F800000#32) = 1#1) : ∃ r : ℝ, z = (r : EReal) := by
  rw [ofBits_top] at h
  induction z using EReal.rec with
  | bot => simp [Ideal.cmp] at h
  | coe r => exact ⟨r, rfl⟩
  | top => simp [Ideal.cmp] at h

/-- One of the three tests: every absolute value of an array below +∞. -/
theorem real_of_test {S U : Shape} {axes : List (Fin S.rank)} [Subsingleton U.Idx] (v : FVec Ideal S .f32) (top : FVec Ideal S .f32) (init : IVec U 1)
    (ht : ∀ i, top i = Ideal.ofBits .f32 0x7F800000#32) (h : S.ReducesTo axes U) (hu : 0 < U.numel) (j : U.Idx)
    (e : Host.reduce IntOp.andi (cmpf .olt (Host.absf v) top) init h hu j = 1#1) : AllReal v := by
  intro i
  have hi : Ideal.cmp .olt (max (v i) (-(v i))) (top i) = 1#1 := Host.reduce_andi_all _ init h hu j e i
  rw [ht] at hi
  exact real_of_lt hi

theorem inputs_real (m : (ℓ : Loc KernelIdeal.nD KernelIdeal.τ KernelIdeal.sig) → Buf (Elt Ideal) ℓ)
    (hm : Cert.Pre_KernelIdeal_finite_scores_KernelIdeal m) (c : Dev KernelIdeal.nD) :
    AllReal (KernelIdeal.Mesh.argX m c) ∧ AllReal (KernelIdeal.Mesh.argQ m c) ∧ AllReal (KernelIdeal.Mesh.argK m c) := by
  have h := congrFun (hm c) ValueIdx.ix0
  unfold Cert.Pre_finite_scores_KernelIdeal.fn at h
  obtain ⟨h₁, hk⟩ := IntOp.andi_eq_one.1 h
  obtain ⟨hx, hq⟩ := IntOp.andi_eq_one.1 h₁
  exact ⟨real_of_test _ _ _ (fun i => rfl) _ _ _ hx, real_of_test _ _ _ (fun i => rfl) _ _ _ hq, real_of_test _ _ _ (fun i => rfl) _ _ _ hk⟩

end Cert.Value

end
-- ==== Proof.lean ====
/- The five claims: the kernel's program, its ideal reading and the reference terminate and keep their arguments with every
   semaphore back at zero, the ideal reading is the kernel, and on every device the kernel computes the reference's attention. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Mesh.Launch
public import proofs.«01_k».proof.Proof.Value.Equal
public import proofs.«01_k».proof.Proof.Value.Finite
public import Idealize.ShloMosaic.Adequacy
public import Idealize.ShloMosaic.Init

@[expose] public section

noncomputable section

namespace Cert.Proof

open Idealize.ShloMosaic Idealize.ShloMosaic.TcCoe Idealize.SL.Sem

set_option maxRecDepth 100000 in
/-- The kernel and its ideal reading have the same text, so the same bodies. -/
theorem same_bodies : Kernel.defs₀ (F := Bits) = KernelIdeal.defs₀ (F := Bits) := by
  unfold Kernel.defs₀ KernelIdeal.defs₀
  refine congrArg Defs.onTc ?_
  funext l a
  match l, a with
  | 0, (t, s) => rfl

theorem same_defs : Kernel.defs (F := Bits) = KernelIdeal.defs (F := Bits) :=
  congrArg (Pipeline.defs KernelIdeal.pcfgs) same_bodies

/-- Each frame is the run with its result forgotten. -/
theorem frame_kernel : Cert.quiescent_Kernel := by
  intro m ρ _
  rw [same_defs]
  exact (θ_run KernelIdeal.defs _ _).mono (fun _ h => h.1) (KernelIdeal.Mesh.run_main (F := Bits) m ρ)
theorem frame_ideal : Cert.quiescent_KernelIdeal := fun m ρ _ =>
  (θ_run KernelIdeal.defs _ _).mono (fun _ h => h.1) (KernelIdeal.Mesh.run_main (F := Ideal) m ρ)

/-- The reference keeps its arguments, and has no semaphore. -/
theorem frame_reference : Cert.quiescent_ReferenceIdeal := fun m ρ _ =>
  (θ_run ReferenceIdeal.defs _ _).mono (fun r h => ⟨fun c => (h c).2, sem_eq_zero_of_no_sems (by decide) r.2⟩)
    (ReferenceIdeal.Value.run m ρ)

/-- From corresponding arguments, real where the scores read them, every device ends with the reference's result. -/
theorem equal : Cert.algebraic_KernelIdeal_ReferenceIdeal_pre_finite_scores_KernelIdeal := by
  intro m ρ m' ρ' hm h
  have hx := (Value.inputs_real m hm 0).1
  have hr := fun c => Value.result_eq m _ _ _ _ _ h ((h 0).1 ▸ hx)
    (Value.whole_real _ fun d => (h d).2.1 ▸ (Value.inputs_real m hm d).2.1)
    (Value.whole_real _ fun d => (h d).2.2.1 ▸ (Value.inputs_real m hm d).2.2) c
  refine ⟨ReferenceIdeal.Value.res_out0 m' 0, ?_, ?_⟩
  · exact (θ_run KernelIdeal.defs _ _).mono (fun r hr' c => ⟨((hr'.2 c).trans (hr c)).trans (Value.reference_eq m' 0).symm, hr'.1.1 c⟩)
      (KernelIdeal.Mesh.run_main (F := Ideal) m ρ)
  · exact (θ_run ReferenceIdeal.defs _ _).mono (fun r hr' => hr' 0) (ReferenceIdeal.Value.run m' ρ')

theorem claim : Cert.Claim :=
  ⟨Cert.Kernel.Gen.facts, Cert.KernelIdeal.Gen.facts, Cert.ReferenceIdeal.Gen.facts, Value.preKernel, Value.preReference,
    frame_kernel, frame_ideal, fun m ρ _ => frame_ideal m ρ trivial, frame_reference, fun m ρ _ => frame_reference m ρ trivial,
    trivial, equal⟩

end Cert.Proof

end
